-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v300) = v0 c
          ∧ r.2.mem ((c.tc : Thread Cert.ReferenceIdeal.nD Cert.ReferenceIdeal.τ).loc Cert.ReferenceIdeal.main_v307) = v1 c
          ∧ r.2.mem ((c.tc : Thread Cert.ReferenceIdeal.nD Cert.ReferenceIdeal.τ).loc Cert.ReferenceIdeal.main_v316) = v2 c
          ∧ r.2.mem ((c.tc : Thread Cert.ReferenceIdeal.nD Cert.ReferenceIdeal.τ).loc Cert.ReferenceIdeal.main_v325) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S16x256x512 : Shape := ⟨3, ![16, 256, 512]⟩
abbrev S6x1024x256 : Shape := ⟨3, ![6, 1024, 256]⟩
abbrev S16x512x256 : Shape := ⟨3, ![16, 512, 256]⟩
abbrev S8192x256 : Shape := ⟨2, ![8192, 256]⟩
abbrev S_ : Shape := ⟨0, ![]⟩
abbrev S2097152 : Shape := ⟨1, ![2097152]⟩
abbrev S1572864 : Shape := ⟨1, ![1572864]⟩
abbrev S1x1024x256 : Shape := ⟨3, ![1, 1024, 256]⟩
abbrev S1024x256 : Shape := ⟨2, ![1024, 256]⟩
abbrev S256x1024 : Shape := ⟨2, ![256, 1024]⟩
abbrev S8192x1024 : Shape := ⟨2, ![8192, 1024]⟩
abbrev S1024 : Shape := ⟨1, ![1024]⟩
abbrev S1x1024 : Shape := ⟨2, ![1, 1024]⟩
abbrev S8192 : Shape := ⟨1, ![8192]⟩
abbrev S8192x1 : Shape := ⟨2, ![8192, 1]⟩
abbrev S3719168 : Shape := ⟨1, ![3719168]⟩

class Facts : Prop where
  transposes_S16x256x512_S16x512x256_0_2_1 : S16x256x512.Transposes [0, 2, 1] S16x512x256
  shapeCasts_S16x512x256_S8192x256 : S16x512x256.ShapeCasts S8192x256
  bcast_S_S16x256x512 : S_.BroadcastsInDim S16x256x512 (![] : Fin 0 → Fin S16x256x512.rank)
  shapeCasts_S16x256x512_S2097152 : S16x256x512.ShapeCasts S2097152
  bcast_S_S6x1024x256 : S_.BroadcastsInDim S6x1024x256 (![] : Fin 0 → Fin S6x1024x256.rank)
  shapeCasts_S6x1024x256_S1572864 : S6x1024x256.ShapeCasts S1572864
  slices_S6x1024x256_S1x1024x256_0_0_0 : S6x1024x256.Slices ![0, 0, 0] S1x1024x256
  shapeCasts_S1x1024x256_S1024x256 : S1x1024x256.ShapeCasts S1024x256
  transposes_S1024x256_S256x1024_1_0 : S1024x256.Transposes [1, 0] S256x1024
  reducesTo_S1024x256_S1024_d1 : S1024x256.ReducesTo [1] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  natLt_1_32 : 1 < 32
  bcast_S_S8192 : S_.BroadcastsInDim S8192 (![] : Fin 0 → Fin S8192.rank)
  slices_S6x1024x256_S1x1024x256_1_0_0 : S6x1024x256.Slices ![1, 0, 0] S1x1024x256
  slices_S6x1024x256_S1x1024x256_2_0_0 : S6x1024x256.Slices ![2, 0, 0] S1x1024x256
  slices_S6x1024x256_S1x1024x256_3_0_0 : S6x1024x256.Slices ![3, 0, 0] S1x1024x256
  slices_S6x1024x256_S1x1024x256_4_0_0 : S6x1024x256.Slices ![4, 0, 0] S1x1024x256
  slices_S6x1024x256_S1x1024x256_5_0_0 : S6x1024x256.Slices ![5, 0, 0] S1x1024x256
  concatenates_S2097152_S1572864_S8192_S8192_S8192_S8192_S8192_S8192_S3719168_d0 : Shape.Concatenates [S2097152, S1572864, S8192, S8192, S8192, S8192, S8192, S8192] S3719168 0
  dot_S8192x256_S256x1024_S8192x1024_1_0_0_1_n_n_wf : DotDims.WF S8192x256 S256x1024 S8192x1024 [1] [0] [0] [1] [] []
  dot_S8192x1024_S1024x256_S8192x256_1_0_0_1_n_n_wf : DotDims.WF S8192x1024 S1024x256 S8192x256 [1] [0] [0] [1] [] []

variable [Facts]

def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def fn_part7 {F : FTy → Type} [FloatOps F] (main_v5 : IVec S2097152 1) (main_v9 : IVec S1572864 1) (main_v28 : IVec S8192 1) (main_v50 : IVec S8192 1) (main_v72 : IVec S8192 1) (main_v94 : IVec S8192 1) (main_v116 : IVec S8192 1) (main_v119 : FVec F S8192x256 .f32) (main_v121 : FVec F S1024x256 .f32) (main_v134 : IVec S8192x1024 1) (main_v136 : IVec S8192 32) : IVec S3719168 1 :=
  let main_c_29 : IVec S_ 32 := constantI S_ 32 1#32
  let main_v137 : IVec S8192 32 := broadcastInDim S8192 ![] bcast_S_S8192 main_c_29
  let main_v138 : IVec S8192 1 := cmpi .eq main_v136 main_v137
  let main_v139 : FVec F S8192x1024 .f32 := uitofp .f32 main_v134
  let main_v140 : FVec F S8192x256 .f32 := (fun l r => Host.dotGeneral dot_S8192x1024_S1024x256_S8192x256_1_0_0_1_n_n none l r) main_v139 main_v121
  let main_v141 : FVec F S8192x256 .f32 := subf main_v119 main_v140
  let main_v142 : IVec S3719168 1 := concatenate S3719168 0 [⟨S2097152, main_v5⟩, ⟨S1572864, main_v9⟩, ⟨S8192, main_v28⟩, ⟨S8192, main_v50⟩, ⟨S8192, main_v72⟩, ⟨S8192, main_v94⟩, ⟨S8192, main_v116⟩, ⟨S8192, main_v138⟩] concatenates_S2097152_S1572864_S8192_S8192_S8192_S8192_S8192_S8192_S3719168_d0
  main_v142

def fn_part6 {F : FTy → Type} [FloatOps F] (main_arg1 : FVec F S6x1024x256 .f32) (main_v5 : IVec S2097152 1) (main_v9 : IVec S1572864 1) (main_v28 : IVec S8192 1) (main_v50 : IVec S8192 1) (main_v72 : IVec S8192 1) (main_v94 : IVec S8192 1) (main_v97 : FVec F S8192x256 .f32) (main_v99 : FVec F S1024x256 .f32) (main_v112 : IVec S8192x1024 1) (main_v116 : IVec S8192 1) : IVec S3719168 1 :=
  let main_v117 : FVec F S8192x1024 .f32 := uitofp .f32 main_v112
  let main_v118 : FVec F S8192x256 .f32 := (fun l r => Host.dotGeneral dot_S8192x1024_S1024x256_S8192x256_1_0_0_1_n_n none l r) main_v117 main_v99
  let main_v119 : FVec F S8192x256 .f32 := subf main_v97 main_v118
  let main_v120 : FVec F S1x1024x256 .f32 := (extractStridedSlice S1x1024x256 ![5, 0, 0] · slices_S6x1024x256_S1x1024x256_5_0_0) main_arg1
  let main_v121 : FVec F S1024x256 .f32 := shapeCast S1024x256 main_v120 shapeCasts_S1x1024x256_S1024x256
  let main_v122 : FVec F S256x1024 .f32 := (transpose S256x1024 [1, 0] · transposes_S1024x256_S256x1024_1_0) main_v121
  let main_v123 : FVec F S8192x1024 .f32 := (fun l r => Host.dotGeneral dot_S8192x256_S256x1024_S8192x1024_1_0_0_1_n_n none l r) main_v119 main_v122
  let main_v124 : FVec F S1024x256 .f32 := mulf main_v121 main_v121
  let main_cst_25 : FVec F S_ .f32 := constant S_ .f32 0x00000000#32
  let main_v125 : FVec F S1024 .f32 := (fun x v => Host.reduceAdd x v reducesTo_S1024x256_S1024_d1 h_S_) main_v124 main_cst_25
  let main_cst_26 : FVec F S_ .f32 := constant S_ .f32 0x3F000000#32
  let main_v126 : FVec F S1024 .f32 := broadcastInDim S1024 ![] bcast_S_S1024 main_cst_26
  let main_v127 : FVec F S1024 .f32 := mulf main_v126 main_v125
  let main_v128 : FVec F S1x1024 .f32 := broadcastInDim S1x1024 ![1] bcast_S1024_S1x1024_1 main_v127
  let main_v129 : FVec F S8192x1024 .f32 := broadcastInDim S8192x1024 ![0, 1] bcast_S1x1024_S8192x1024_0_1 main_v128
  let main_v130 : FVec F S8192x1024 .f32 := subf main_v123 main_v129
  let main_cst_27 : FVec F S_ .f32 := constant S_ .f32 0xFF800000#32
  let main_v131 : FVec F S8192 .f32 := (fun x v => Host.reduce FloatOps.maximumf x v reducesTo_S8192x1024_S8192_d1 h_S_) main_v130 main_cst_27
  let main_v132 : FVec F S8192x1 .f32 := broadcastInDim S8192x1 ![0] bcast_S8192_S8192x1_0 main_v131
  let main_v133 : FVec F S8192x1024 .f32 := broadcastInDim S8192x1024 ![0, 1] bcast_S8192x1_S8192x1024_0_1 main_v132
  let main_v134 : IVec S8192x1024 1 := cmpf .oeq main_v130 main_v133
  let main_v135 : IVec S8192x1024 32 := (extui 32 · natLt_1_32) main_v134
  let main_c_28 : IVec S_ 32 := constantI S_ 32 0#32
  let main_v136 : IVec S8192 32 := (fun x v => Host.reduce IntOp.addi x v reducesTo_S8192x1024_S8192_d1 h_S_) main_v135 main_c_28
  fn_part7 (F := F) main_v5 main_v9 main_v28 main_v50 main_v72 main_v94 main_v116 main_v119 main_v121 main_v134 main_v136

def fn_part5 {F : FTy → Type} [FloatOps F] (main_arg1 : FVec F S6x1024x256 .f32) (main_v5 : IVec S2097152 1) (main_v9 : IVec S1572864 1) (main_v28 : IVec S8192 1) (main_v50 : IVec S8192 1) (main_v72 : IVec S8192 1) (main_v94 : IVec S8192 1) (main_v97 : FVec F S8192x256 .f32) : IVec S3719168 1 :=
  let main_v98 : FVec F S1x1024x256 .f32 := (extractStridedSlice S1x1024x256 ![4, 0, 0] · slices_S6x1024x256_S1x1024x256_4_0_0) main_arg1
  let main_v99 : FVec F S1024x256 .f32 := shapeCast S1024x256 main_v98 shapeCasts_S1x1024x256_S1024x256
  let main_v100 : FVec F S256x1024 .f32 := (transpose S256x1024 [1, 0] · transposes_S1024x256_S256x1024_1_0) main_v99
  let main_v101 : FVec F S8192x1024 .f32 := (fun l r => Host.dotGeneral dot_S8192x256_S256x1024_S8192x1024_1_0_0_1_n_n none l r) main_v97 main_v100
  let main_v102 : FVec F S1024x256 .f32 := mulf main_v99 main_v99
  let main_cst_20 : FVec F S_ .f32 := constant S_ .f32 0x00000000#32
  let main_v103 : FVec F S1024 .f32 := (fun x v => Host.reduceAdd x v reducesTo_S1024x256_S1024_d1 h_S_) main_v102 main_cst_20
  let main_cst_21 : FVec F S_ .f32 := constant S_ .f32 0x3F000000#32
  let main_v104 : FVec F S1024 .f32 := broadcastInDim S1024 ![] bcast_S_S1024 main_cst_21
  let main_v105 : FVec F S1024 .f32 := mulf main_v104 main_v103
  let main_v106 : FVec F S1x1024 .f32 := broadcastInDim S1x1024 ![1] bcast_S1024_S1x1024_1 main_v105
  let main_v107 : FVec F S8192x1024 .f32 := broadcastInDim S8192x1024 ![0, 1] bcast_S1x1024_S8192x1024_0_1 main_v106
  let main_v108 : FVec F S8192x1024 .f32 := subf main_v101 main_v107
  let main_cst_22 : FVec F S_ .f32 := constant S_ .f32 0xFF800000#32
  let main_v109 : FVec F S8192 .f32 := (fun x v => Host.reduce FloatOps.maximumf x v reducesTo_S8192x1024_S8192_d1 h_S_) main_v108 main_cst_22
  let main_v110 : FVec F S8192x1 .f32 := broadcastInDim S8192x1 ![0] bcast_S8192_S8192x1_0 main_v109
  let main_v111 : FVec F S8192x1024 .f32 := broadcastInDim S8192x1024 ![0, 1] bcast_S8192x1_S8192x1024_0_1 main_v110
  let main_v112 : IVec S8192x1024 1 := cmpf .oeq main_v108 main_v111
  let main_v113 : IVec S8192x1024 32 := (extui 32 · natLt_1_32) main_v112
  let main_c_23 : IVec S_ 32 := constantI S_ 32 0#32
  let main_v114 : IVec S8192 32 := (fun x v => Host.reduce IntOp.addi x v reducesTo_S8192x1024_S8192_d1 h_S_) main_v113 main_c_23
  let main_c_24 : IVec S_ 32 := constantI S_ 32 1#32
  let main_v115 : IVec S8192 32 := broadcastInDim S8192 ![] bcast_S_S8192 main_c_24
  let main_v116 : IVec S8192 1 := cmpi .eq main_v114 main_v115
  fn_part6 (F := F) main_arg1 main_v5 main_v9 main_v28 main_v50 main_v72 main_v94 main_v97 main_v99 main_v112 main_v116

def fn_part4 {F : FTy → Type} [FloatOps F] (main_arg1 : FVec F S6x1024x256 .f32) (main_v5 : IVec S2097152 1) (main_v9 : IVec S1572864 1) (main_v28 : IVec S8192 1) (main_v50 : IVec S8192 1) (main_v72 : IVec S8192 1) (main_v75 : FVec F S8192x256 .f32) (main_v77 : FVec F S1024x256 .f32) (main_v78 : FVec F S256x1024 .f32) : IVec S3719168 1 :=
  let main_v79 : FVec F S8192x1024 .f32 := (fun l r => Host.dotGeneral dot_S8192x256_S256x1024_S8192x1024_1_0_0_1_n_n none l r) main_v75 main_v78
  let main_v80 : FVec F S1024x256 .f32 := mulf main_v77 main_v77
  let main_cst_15 : FVec F S_ .f32 := constant S_ .f32 0x00000000#32
  let main_v81 : FVec F S1024 .f32 := (fun x v => Host.reduceAdd x v reducesTo_S1024x256_S1024_d1 h_S_) main_v80 main_cst_15
  let main_cst_16 : FVec F S_ .f32 := constant S_ .f32 0x3F000000#32
  let main_v82 : FVec F S1024 .f32 := broadcastInDim S1024 ![] bcast_S_S1024 main_cst_16
  let main_v83 : FVec F S1024 .f32 := mulf main_v82 main_v81
  let main_v84 : FVec F S1x1024 .f32 := broadcastInDim S1x1024 ![1] bcast_S1024_S1x1024_1 main_v83
  let main_v85 : FVec F S8192x1024 .f32 := broadcastInDim S8192x1024 ![0, 1] bcast_S1x1024_S8192x1024_0_1 main_v84
  let main_v86 : FVec F S8192x1024 .f32 := subf main_v79 main_v85
  let main_cst_17 : FVec F S_ .f32 := constant S_ .f32 0xFF800000#32
  let main_v87 : FVec F S8192 .f32 := (fun x v => Host.reduce FloatOps.maximumf x v reducesTo_S8192x1024_S8192_d1 h_S_) main_v86 main_cst_17
  let main_v88 : FVec F S8192x1 .f32 := broadcastInDim S8192x1 ![0] bcast_S8192_S8192x1_0 main_v87
  let main_v89 : FVec F S8192x1024 .f32 := broadcastInDim S8192x1024 ![0, 1] bcast_S8192x1_S8192x1024_0_1 main_v88
  let main_v90 : IVec S8192x1024 1 := cmpf .oeq main_v86 main_v89
  let main_v91 : IVec S8192x1024 32 := (extui 32 · natLt_1_32) main_v90
  let main_c_18 : IVec S_ 32 := constantI S_ 32 0#32
  let main_v92 : IVec S8192 32 := (fun x v => Host.reduce IntOp.addi x v reducesTo_S8192x1024_S8192_d1 h_S_) main_v91 main_c_18
  let main_c_19 : IVec S_ 32 := constantI S_ 32 1#32
  let main_v93 : IVec S8192 32 := broadcastInDim S8192 ![] bcast_S_S8192 main_c_19
  let main_v94 : IVec S8192 1 := cmpi .eq main_v92 main_v93
  let main_v95 : FVec F S8192x1024 .f32 := uitofp .f32 main_v90
  let main_v96 : FVec F S8192x256 .f32 := (fun l r => Host.dotGeneral dot_S8192x1024_S1024x256_S8192x256_1_0_0_1_n_n none l r) main_v95 main_v77
  let main_v97 : FVec F S8192x256 .f32 := subf main_v75 main_v96
  fn_part5 (F := F) main_arg1 main_v5 main_v9 main_v28 main_v50 main_v72 main_v94 main_v97

def fn_part3 {F : FTy → Type} [FloatOps F] (main_arg1 : FVec F S6x1024x256 .f32) (main_v5 : IVec S2097152 1) (main_v9 : IVec S1572864 1) (main_v28 : IVec S8192 1) (main_v50 : IVec S8192 1) (main_v53 : FVec F S8192x256 .f32) (main_v55 : FVec F S1024x256 .f32) (main_v57 : FVec F S8192x1024 .f32) (main_v58 : FVec F S1024x256 .f32) (main_cst_10 : FVec F S_ .f32) : IVec S3719168 1 :=
  let main_v59 : FVec F S1024 .f32 := (fun x v => Host.reduceAdd x v reducesTo_S1024x256_S1024_d1 h_S_) main_v58 main_cst_10
  let main_cst_11 : FVec F S_ .f32 := constant S_ .f32 0x3F000000#32
  let main_v60 : FVec F S1024 .f32 := broadcastInDim S1024 ![] bcast_S_S1024 main_cst_11
  let main_v61 : FVec F S1024 .f32 := mulf main_v60 main_v59
  let main_v62 : FVec F S1x1024 .f32 := broadcastInDim S1x1024 ![1] bcast_S1024_S1x1024_1 main_v61
  let main_v63 : FVec F S8192x1024 .f32 := broadcastInDim S8192x1024 ![0, 1] bcast_S1x1024_S8192x1024_0_1 main_v62
  let main_v64 : FVec F S8192x1024 .f32 := subf main_v57 main_v63
  let main_cst_12 : FVec F S_ .f32 := constant S_ .f32 0xFF800000#32
  let main_v65 : FVec F S8192 .f32 := (fun x v => Host.reduce FloatOps.maximumf x v reducesTo_S8192x1024_S8192_d1 h_S_) main_v64 main_cst_12
  let main_v66 : FVec F S8192x1 .f32 := broadcastInDim S8192x1 ![0] bcast_S8192_S8192x1_0 main_v65
  let main_v67 : FVec F S8192x1024 .f32 := broadcastInDim S8192x1024 ![0, 1] bcast_S8192x1_S8192x1024_0_1 main_v66
  let main_v68 : IVec S8192x1024 1 := cmpf .oeq main_v64 main_v67
  let main_v69 : IVec S8192x1024 32 := (extui 32 · natLt_1_32) main_v68
  let main_c_13 : IVec S_ 32 := constantI S_ 32 0#32
  let main_v70 : IVec S8192 32 := (fun x v => Host.reduce IntOp.addi x v reducesTo_S8192x1024_S8192_d1 h_S_) main_v69 main_c_13
  let main_c_14 : IVec S_ 32 := constantI S_ 32 1#32
  let main_v71 : IVec S8192 32 := broadcastInDim S8192 ![] bcast_S_S8192 main_c_14
  let main_v72 : IVec S8192 1 := cmpi .eq main_v70 main_v71
  let main_v73 : FVec F S8192x1024 .f32 := uitofp .f32 main_v68
  let main_v74 : FVec F S8192x256 .f32 := (fun l r => Host.dotGeneral dot_S8192x1024_S1024x256_S8192x256_1_0_0_1_n_n none l r) main_v73 main_v55
  let main_v75 : FVec F S8192x256 .f32 := subf main_v53 main_v74
  let main_v76 : FVec F S1x1024x256 .f32 := (extractStridedSlice S1x1024x256 ![3, 0, 0] · slices_S6x1024x256_S1x1024x256_3_0_0) main_arg1
  let main_v77 : FVec F S1024x256 .f32 := shapeCast S1024x256 main_v76 shapeCasts_S1x1024x256_S1024x256
  let main_v78 : FVec F S256x1024 .f32 := (transpose S256x1024 [1, 0] · transposes_S1024x256_S256x1024_1_0) main_v77
  fn_part4 (F := F) main_arg1 main_v5 main_v9 main_v28 main_v50 main_v72 main_v75 main_v77 main_v78

def fn_part2 {F : FTy → Type} [FloatOps F] (main_arg1 : FVec F S6x1024x256 .f32) (main_v5 : IVec S2097152 1) (main_v9 : IVec S1572864 1) (main_v28 : IVec S8192 1) (main_v31 : FVec F S8192x256 .f32) (main_v33 : FVec F S1024x256 .f32) (main_v35 : FVec F S8192x1024 .f32) (main_v37 : FVec F S1024 .f32) (main_v38 : FVec F S1024 .f32) : IVec S3719168 1 :=
  let main_v39 : FVec F S1024 .f32 := mulf main_v38 main_v37
  let main_v40 : FVec F S1x1024 .f32 := broadcastInDim S1x1024 ![1] bcast_S1024_S1x1024_1 main_v39
  let main_v41 : FVec F S8192x1024 .f32 := broadcastInDim S8192x1024 ![0, 1] bcast_S1x1024_S8192x1024_0_1 main_v40
  let main_v42 : FVec F S8192x1024 .f32 := subf main_v35 main_v41
  let main_cst_7 : FVec F S_ .f32 := constant S_ .f32 0xFF800000#32
  let main_v43 : FVec F S8192 .f32 := (fun x v => Host.reduce FloatOps.maximumf x v reducesTo_S8192x1024_S8192_d1 h_S_) main_v42 main_cst_7
  let main_v44 : FVec F S8192x1 .f32 := broadcastInDim S8192x1 ![0] bcast_S8192_S8192x1_0 main_v43
  let main_v45 : FVec F S8192x1024 .f32 := broadcastInDim S8192x1024 ![0, 1] bcast_S8192x1_S8192x1024_0_1 main_v44
  let main_v46 : IVec S8192x1024 1 := cmpf .oeq main_v42 main_v45
  let main_v47 : IVec S8192x1024 32 := (extui 32 · natLt_1_32) main_v46
  let main_c_8 : IVec S_ 32 := constantI S_ 32 0#32
  let main_v48 : IVec S8192 32 := (fun x v => Host.reduce IntOp.addi x v reducesTo_S8192x1024_S8192_d1 h_S_) main_v47 main_c_8
  let main_c_9 : IVec S_ 32 := constantI S_ 32 1#32
  let main_v49 : IVec S8192 32 := broadcastInDim S8192 ![] bcast_S_S8192 main_c_9
  let main_v50 : IVec S8192 1 := cmpi .eq main_v48 main_v49
  let main_v51 : FVec F S8192x1024 .f32 := uitofp .f32 main_v46
  let main_v52 : FVec F S8192x256 .f32 := (fun l r => Host.dotGeneral dot_S8192x1024_S1024x256_S8192x256_1_0_0_1_n_n none l r) main_v51 main_v33
  let main_v53 : FVec F S8192x256 .f32 := subf main_v31 main_v52
  let main_v54 : FVec F S1x1024x256 .f32 := (extractStridedSlice S1x1024x256 ![2, 0, 0] · slices_S6x1024x256_S1x1024x256_2_0_0) main_arg1
  let main_v55 : FVec F S1024x256 .f32 := shapeCast S1024x256 main_v54 shapeCasts_S1x1024x256_S1024x256
  let main_v56 : FVec F S256x1024 .f32 := (transpose S256x1024 [1, 0] · transposes_S1024x256_S256x1024_1_0) main_v55
  let main_v57 : FVec F S8192x1024 .f32 := (fun l r => Host.dotGeneral dot_S8192x256_S256x1024_S8192x1024_1_0_0_1_n_n none l r) main_v53 main_v56
  let main_v58 : FVec F S1024x256 .f32 := mulf main_v55 main_v55
  let main_cst_10 : FVec F S_ .f32 := constant S_ .f32 0x00000000#32
  fn_part3 (F := F) main_arg1 main_v5 main_v9 main_v28 main_v50 main_v53 main_v55 main_v57 main_v58 main_cst_10

def fn_part1 {F : FTy → Type} [FloatOps F] (main_arg1 : FVec F S6x1024x256 .f32) (main_v1 : FVec F S8192x256 .f32) (main_v5 : IVec S2097152 1) (main_v9 : IVec S1572864 1) (main_v11 : FVec F S1024x256 .f32) (main_v13 : FVec F S8192x1024 .f32) (main_v19 : FVec F S8192x1024 .f32) : IVec S3719168 1 :=
  let main_v20 : FVec F S8192x1024 .f32 := subf main_v13 main_v19
  let main_cst_3 : FVec F S_ .f32 := constant S_ .f32 0xFF800000#32
  let main_v21 : FVec F S8192 .f32 := (fun x v => Host.reduce FloatOps.maximumf x v reducesTo_S8192x1024_S8192_d1 h_S_) main_v20 main_cst_3
  let main_v22 : FVec F S8192x1 .f32 := broadcastInDim S8192x1 ![0] bcast_S8192_S8192x1_0 main_v21
  let main_v23 : FVec F S8192x1024 .f32 := broadcastInDim S8192x1024 ![0, 1] bcast_S8192x1_S8192x1024_0_1 main_v22
  let main_v24 : IVec S8192x1024 1 := cmpf .oeq main_v20 main_v23
  let main_v25 : IVec S8192x1024 32 := (extui 32 · natLt_1_32) main_v24
  let main_c : IVec S_ 32 := constantI S_ 32 0#32
  let main_v26 : IVec S8192 32 := (fun x v => Host.reduce IntOp.addi x v reducesTo_S8192x1024_S8192_d1 h_S_) main_v25 main_c
  let main_c_4 : IVec S_ 32 := constantI S_ 32 1#32
  let main_v27 : IVec S8192 32 := broadcastInDim S8192 ![] bcast_S_S8192 main_c_4
  let main_v28 : IVec S8192 1 := cmpi .eq main_v26 main_v27
  let main_v29 : FVec F S8192x1024 .f32 := uitofp .f32 main_v24
  let main_v30 : FVec F S8192x256 .f32 := (fun l r => Host.dotGeneral dot_S8192x1024_S1024x256_S8192x256_1_0_0_1_n_n none l r) main_v29 main_v11
  let main_v31 : FVec F S8192x256 .f32 := subf main_v1 main_v30
  let main_v32 : FVec F S1x1024x256 .f32 := (extractStridedSlice S1x1024x256 ![1, 0, 0] · slices_S6x1024x256_S1x1024x256_1_0_0) main_arg1
  let main_v33 : FVec F S1024x256 .f32 := shapeCast S1024x256 main_v32 shapeCasts_S1x1024x256_S1024x256
  let main_v34 : FVec F S256x1024 .f32 := (transpose S256x1024 [1, 0] · transposes_S1024x256_S256x1024_1_0) main_v33
  let main_v35 : FVec F S8192x1024 .f32 := (fun l r => Host.dotGeneral dot_S8192x256_S256x1024_S8192x1024_1_0_0_1_n_n none l r) main_v31 main_v34
  let main_v36 : FVec F S1024x256 .f32 := mulf main_v33 main_v33
  let main_cst_5 : FVec F S_ .f32 := constant S_ .f32 0x00000000#32
  let main_v37 : FVec F S1024 .f32 := (fun x v => Host.reduceAdd x v reducesTo_S1024x256_S1024_d1 h_S_) main_v36 main_cst_5
  let main_cst_6 : FVec F S_ .f32 := constant S_ .f32 0x3F000000#32
  let main_v38 : FVec F S1024 .f32 := broadcastInDim S1024 ![] bcast_S_S1024 main_cst_6
  fn_part2 (F := F) main_arg1 main_v5 main_v9 main_v28 main_v31 main_v33 main_v35 main_v37 main_v38

def fn {F : FTy → Type} [FloatOps F] (main_arg0 : FVec F S16x256x512 .f32) (main_arg1 : FVec F S6x1024x256 .f32) : IVec S3719168 1 :=
  let main_v0 : FVec F S16x512x256 .f32 := (transpose S16x512x256 [0, 2, 1] · transposes_S16x256x512_S16x512x256_0_2_1) main_arg0
  let main_v1 : FVec F S8192x256 .f32 := shapeCast S8192x256 main_v0 shapeCasts_S16x512x256_S8192x256
  let main_v2 : FVec F S16x256x512 .f32 := Host.absf main_arg0
  let main_cst : FVec F S_ .f32 := constant S_ .f32 0x7F800000#32
  let main_v3 : FVec F S16x256x512 .f32 := broadcastInDim S16x256x512 ![] bcast_S_S16x256x512 main_cst
  let main_v4 : IVec S16x256x512 1 := cmpf .olt main_v2 main_v3
  let main_v5 : IVec S2097152 1 := shapeCast S2097152 main_v4 shapeCasts_S16x256x512_S2097152
  let main_v6 : FVec F S6x1024x256 .f32 := Host.absf main_arg1
  let main_cst_0 : FVec F S_ .f32 := constant S_ .f32 0x7F800000#32
  let main_v7 : FVec F S6x1024x256 .f32 := broadcastInDim S6x1024x256 ![] bcast_S_S6x1024x256 main_cst_0
  let main_v8 : IVec S6x1024x256 1 := cmpf .olt main_v6 main_v7
  let main_v9 : IVec S1572864 1 := shapeCast S1572864 main_v8 shapeCasts_S6x1024x256_S1572864
  let main_v10 : FVec F S1x1024x256 .f32 := (extractStridedSlice S1x1024x256 ![0, 0, 0] · slices_S6x1024x256_S1x1024x256_0_0_0) main_arg1
  let main_v11 : FVec F S1024x256 .f32 := shapeCast S1024x256 main_v10 shapeCasts_S1x1024x256_S1024x256
  let main_v12 : FVec F S256x1024 .f32 := (transpose S256x1024 [1, 0] · transposes_S1024x256_S256x1024_1_0) main_v11
  let main_v13 : FVec F S8192x1024 .f32 := (fun l r => Host.dotGeneral dot_S8192x256_S256x1024_S8192x1024_1_0_0_1_n_n none l r) main_v1 main_v12
  let main_v14 : FVec F S1024x256 .f32 := mulf main_v11 main_v11
  let main_cst_1 : FVec F S_ .f32 := constant S_ .f32 0x00000000#32
  let main_v15 : FVec F S1024 .f32 := (fun x v => Host.reduceAdd x v reducesTo_S1024x256_S1024_d1 h_S_) main_v14 main_cst_1
  let main_cst_2 : FVec F S_ .f32 := constant S_ .f32 0x3F000000#32
  let main_v16 : FVec F S1024 .f32 := broadcastInDim S1024 ![] bcast_S_S1024 main_cst_2
  let main_v17 : FVec F S1024 .f32 := mulf main_v16 main_v15
  let main_v18 : FVec F S1x1024 .f32 := broadcastInDim S1x1024 ![1] bcast_S1024_S1x1024_1 main_v17
  let main_v19 : FVec F S8192x1024 .f32 := broadcastInDim S8192x1024 ![0, 1] bcast_S1x1024_S8192x1024_0_1 main_v18
  fn_part1 (F := F) main_arg1 main_v1 main_v5 main_v9 main_v11 main_v13 main_v19
-- ==== Kernel.lean ====
abbrev S16x256x512 : Shape := ⟨3, ![16, 256, 512]⟩
abbrev S6x1024x256 : Shape := ⟨3, ![6, 1024, 256]⟩
abbrev S16x6x512 : Shape := ⟨3, ![16, 6, 512]⟩
abbrev S1x1 : Shape := ⟨2, ![1, 1]⟩
abbrev S2x256x512 : Shape := ⟨3, ![2, 256, 512]⟩
abbrev S2x6x512 : Shape := ⟨3, ![2, 6, 512]⟩
abbrev S6x1024x1 : Shape := ⟨3, ![6, 1024, 1]⟩
abbrev S6x1024 : Shape := ⟨2, ![6, 1024]⟩
abbrev S1x256x512 : Shape := ⟨3, ![1, 256, 512]⟩
abbrev S256x512 : Shape := ⟨2, ![256, 512]⟩
abbrev S256x1024 : Shape := ⟨2, ![256, 1024]⟩
abbrev S1024x1024 : Shape := ⟨2, ![1024, 1024]⟩
abbrev S1x1024x256 : Shape := ⟨3, ![1, 1024, 256]⟩
abbrev S1024x256 : Shape := ⟨2, ![1024, 256]⟩
abbrev S1x1024x1 : Shape := ⟨3, ![1, 1024, 1]⟩
abbrev S1024x1 : Shape := ⟨2, ![1024, 1]⟩
abbrev S1024 : Shape := ⟨1, ![1024]⟩
abbrev S1x1024 : Shape := ⟨2, ![1, 1024]⟩
abbrev S1x256x1024 : Shape := ⟨3, ![1, 256, 1024]⟩
abbrev S1 : Shape := ⟨1, ![1]⟩
abbrev S1x1x1 : Shape := ⟨3, ![1, 1, 1]⟩
abbrev S6x512 : Shape := ⟨2, ![6, 512]⟩
abbrev S1x6x512 : Shape := ⟨3, ![1, 6, 512]⟩
abbrev S6x1 : Shape := ⟨2, ![6, 1]⟩
abbrev S6x1x1 : Shape := ⟨3, ![6, 1, 1]⟩
abbrev S1x6x1x1 : Shape := ⟨4, ![1, 6, 1, 1]⟩
abbrev S1x1x1x1 : Shape := ⟨4, ![1, 1, 1, 1]⟩
abbrev S16x512x6 : Shape := ⟨3, ![16, 512, 6]⟩
abbrev S_ : Shape := ⟨0, ![]⟩

abbrev nBuf : Space → Nat
  | .hbm => 19
  | .vmem => 16
  | .smem => 0
  | _ => 0

abbrev bufTy : (tb : Table) → Fin (tcTables nBuf tb) → BufTy
  | .hbm, ⟨0, _⟩ => ⟨S16x256x512, .f32⟩
  | .hbm, ⟨1, _⟩ => ⟨S6x1024x256, .f32⟩
  | .hbm, ⟨2, _⟩ => ⟨S6x1024x256, .bf16⟩
  | .hbm, ⟨3, _⟩ => ⟨S6x1024x256, .bf16⟩
  | .hbm, ⟨4, _⟩ => ⟨S6x1024x256, .f32⟩
  | .hbm, ⟨5, _⟩ => ⟨S6x1024x256, .f32⟩
  | .hbm, ⟨6, _⟩ => ⟨S6x1024x256, .bf16⟩
  | .hbm, ⟨7, _⟩ => ⟨S6x1024x256, .f32⟩
  | .hbm, ⟨8, _⟩ => ⟨S6x1024x256, .f32⟩
  | .hbm, ⟨9, _⟩ => ⟨S6x1024x256, .bf16⟩
  | .hbm, ⟨10, _⟩ => ⟨S6x1024x256, .bf16⟩
  | .hbm, ⟨11, _⟩ => ⟨S6x1024x256, .bf16⟩
  | .hbm, ⟨12, _⟩ => ⟨S16x256x512, .f32⟩
  | .hbm, ⟨13, _⟩ => ⟨S16x6x512, .i32⟩
  | .hbm, ⟨14, _⟩ => ⟨S1x1, .f32⟩
  | .hbm, ⟨15, _⟩ => ⟨S1x1, .f32⟩
  | .hbm, ⟨16, _⟩ => ⟨S16x512x6, .i32⟩
  | .hbm, ⟨17, _⟩ => ⟨S_, .f32⟩
  | .hbm, ⟨18, _⟩ => ⟨S_, .f32⟩
  | .local _ .vmem, ⟨0, _⟩ => ⟨S2x256x512, .f32⟩
  | .local _ .vmem, ⟨1, _⟩ => ⟨S2x256x512, .f32⟩
  | .local _ .vmem, ⟨2, _⟩ => ⟨S6x1024x256, .f32⟩
  | .local _ .vmem, ⟨3, _⟩ => ⟨S6x1024x256, .bf16⟩
  | .local _ .vmem, ⟨4, _⟩ => ⟨S6x1024x256, .bf16⟩
  | .local _ .vmem, ⟨5, _⟩ => ⟨S6x1024x256, .bf16⟩
  | .local _ .vmem, ⟨6, _⟩ => ⟨S6x1024x256, .bf16⟩
  | .local _ .vmem, ⟨7, _⟩ => ⟨S2x256x512, .f32⟩
  | .local _ .vmem, ⟨8, _⟩ => ⟨S2x256x512, .f32⟩
  | .local _ .vmem, ⟨9, _⟩ => ⟨S2x6x512, .i32⟩
  | .local _ .vmem, ⟨10, _⟩ => ⟨S2x6x512, .i32⟩
  | .local _ .vmem, ⟨11, _⟩ => ⟨S1x1, .f32⟩
  | .local _ .vmem, ⟨12, _⟩ => ⟨S1x1, .f32⟩
  | .local _ .vmem, ⟨13, _⟩ => ⟨S6x1024x1, .f32⟩
  | .local _ .vmem, ⟨14, _⟩ => ⟨S6x1024x1, .f32⟩
  | .local _ .vmem, ⟨15, _⟩ => ⟨S1x1, .f32⟩
  | _, _ => ⟨S16x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev main_v10_2 : Ref sig .tc := ⟨.hbm, 14, rfl⟩
abbrev main_v10_3 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v332 : BitVec 1 := Scalar.cmpi .eq arg0 c7_i32
  let v333 : BitVec 32 := Scalar.extui v332
  let c0_i32_199 : BitVec 32 := 0#32
  let v334 : BitVec 1 := Scalar.cmpi .ne v333 c0_i32_199
  v334

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x6x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16x256x512 : Shape := ⟨3, ![16, 256, 512]⟩
abbrev S6x1024x256 : Shape := ⟨3, ![6, 1024, 256]⟩
abbrev S_ : Shape := ⟨0, ![]⟩
abbrev S16x512x256 : Shape := ⟨3, ![16, 512, 256]⟩
abbrev S8192x256 : Shape := ⟨2, ![8192, 256]⟩
abbrev S1x1024x256 : Shape := ⟨3, ![1, 1024, 256]⟩
abbrev S1024x256 : Shape := ⟨2, ![1024, 256]⟩
abbrev S8192 : Shape := ⟨1, ![8192]⟩
abbrev S8192x1 : Shape := ⟨2, ![8192, 1]⟩
abbrev S256x1024 : Shape := ⟨2, ![256, 1024]⟩
abbrev S8192x1024 : Shape := ⟨2, ![8192, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S16x512 : Shape := ⟨2, ![16, 512]⟩
abbrev S16x512x1 : Shape := ⟨3, ![16, 512, 1]⟩
abbrev S16x512x6 : Shape := ⟨3, ![16, 512, 6]⟩
abbrev S6 : Shape := ⟨1, ![6]⟩

abbrev nBuf : Space → Nat
  | .hbm => 585
  | .vmem => 0
  | .smem => 0
  | _ => 0

abbrev hbmTy0_0 (i : Nat) : BufTy := match i % 128 with
  | 0 => ⟨S16x256x512, .f32⟩
  | 1 => ⟨S6x1024x256, .f32⟩
  | 2 => ⟨S_, .f32⟩
  | 3 => ⟨S16x256x512, .f32⟩
  | 4 => ⟨S16x512x256, .f32⟩
  | 5 => ⟨S8192x256, .f32⟩
  | 6 => ⟨S1x1024x256, .f32⟩
  | 7 => ⟨S1024x256, .f32⟩
  | 8 => ⟨S8192x256, .f32⟩
  | 9 => ⟨S_, .f32⟩
  | 10 => ⟨S8192, .f32⟩
  | 11 => ⟨S8192x1, .f32⟩
  | 12 => ⟨S256x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S8192x1024, .f32⟩
  | 19 => ⟨S1024x256, .f32⟩
  | 20 => ⟨S_, .f32⟩
  | 21 => ⟨S1024, .f32⟩
  | 22 => ⟨S1x1024, .f32⟩
  | 23 => ⟨S8192x1024, .f32⟩
  | 24 => ⟨S8192x1024, .f32⟩
  | 25 => ⟨S8192x1024, .f32⟩
  | 26 => ⟨S_, .f32⟩
  | 27 => ⟨S8192, .f32⟩
  | 28 => ⟨S8192x1, .f32⟩
  | 29 => ⟨S8192x1024, .i32⟩
  | 30 => ⟨S8192x1024, .f32⟩
  | 31 => ⟨S8192x1024, .i1⟩
  | 32 => ⟨S_, .i32⟩
  | 33 => ⟨S_, .i32⟩
  | 34 => ⟨S8192x1024, .i32⟩
  | 35 => ⟨S8192x1024, .i32⟩
  | 36 => ⟨S_, .i32⟩
  | 37 => ⟨S8192, .i32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S1, .i32⟩
  | 47 => ⟨S_, .i32⟩
  | 48 => ⟨S8192x1, .i32⟩
  | 49 => ⟨S8192x1, .i1⟩
  | 50 => ⟨S1x1, .i32⟩
  | 51 => ⟨S8192x1, .i32⟩
  | 52 => ⟨S8192x1, .i1⟩
  | 53 => ⟨S8192x1, .i1⟩
  | 54 => ⟨S_, .i1⟩
  | 55 => ⟨S8192, .i1⟩
  | 56 => ⟨S8192x256, .f32⟩
  | 57 => ⟨S8192x256, .i1⟩
  | 58 => ⟨S_, .f32⟩
  | 59 => ⟨S8192x256, .f32⟩
  | 60 => ⟨S8192x256, .f32⟩
  | 61 => ⟨S8192x1, .i32⟩
  | 62 => ⟨S1x1024, .i32⟩
  | 63 => ⟨S8192x1024, .i32⟩
  | 64 => ⟨S8192x1024, .i32⟩
  | 65 => ⟨S8192x1024, .i1⟩
  | 66 => ⟨S8192x1024, .f32⟩
  | 67 => ⟨S_, .f32⟩
  | 68 => ⟨S1024, .f32⟩
  | 69 => ⟨S_, .f32⟩
  | 70 => ⟨S_, .f32⟩
  | 71 => ⟨S_, .f32⟩
  | 72 => ⟨S1024, .f32⟩
  | 73 => ⟨S1024, .f32⟩
  | 74 => ⟨S_, .f32⟩
  | 75 => ⟨S1024, .f32⟩
  | 76 => ⟨S1024, .f32⟩
  | 77 => ⟨S1024, .f32⟩
  | 78 => ⟨S1024, .f32⟩
  | 79 => ⟨S_, .f32⟩
  | 80 => ⟨S_, .f32⟩
  | 81 => ⟨S_, .f32⟩
  | 82 => ⟨S_, .f32⟩
  | 83 => ⟨S8192x256, .f32⟩
  | 84 => ⟨S8192x256, .f32⟩
  | 85 => ⟨S_, .f32⟩
  | 86 => ⟨S_, .f32⟩
  | 87 => ⟨S_, .f32⟩
  | 88 => ⟨S_, .f32⟩
  | 89 => ⟨S8192x256, .f32⟩
  | 90 => ⟨S8192x256, .f32⟩
  | 91 => ⟨S16x512x256, .f32⟩
  | 92 => ⟨S16x256x512, .f32⟩
  | 93 => ⟨S16x512, .i32⟩
  | 94 => ⟨S16x256x512, .f32⟩
  | 95 => ⟨S16x256x512, .f32⟩
  | 96 => ⟨S16x512x256, .f32⟩
  | 97 => ⟨S8192x256, .f32⟩
  | 98 => ⟨S1x1024x256, .f32⟩
  | 99 => ⟨S1024x256, .f32⟩
  | 100 => ⟨S8192x256, .f32⟩
  | 101 => ⟨S_, .f32⟩
  | 102 => ⟨S8192, .f32⟩
  | 103 => ⟨S8192x1, .f32⟩
  | 104 => ⟨S256x1024, .f32⟩
  | 105 => ⟨S8192x1024, .f32⟩
  | 106 => ⟨S_, .f32⟩
  | 107 => ⟨S8192x1024, .f32⟩
  | 108 => ⟨S8192x1024, .f32⟩
  | 109 => ⟨S8192x1024, .f32⟩
  | 110 => ⟨S8192x1024, .f32⟩
  | 111 => ⟨S1024x256, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S8192x1024, .f32⟩
  | 118 => ⟨S_, .f32⟩
  | 119 => ⟨S8192, .f32⟩
  | 120 => ⟨S8192x1, .f32⟩
  | 121 => ⟨S8192x1024, .i32⟩
  | 122 => ⟨S8192x1024, .f32⟩
  | 123 => ⟨S8192x1024, .i1⟩
  | 124 => ⟨S_, .i32⟩
  | 125 => ⟨S_, .i32⟩
  | 126 => ⟨S8192x1024, .i32⟩
  | 127 => ⟨S8192x1024, .i32⟩
  | _ => ⟨S16x256x512, .f32⟩

abbrev hbmTy0_1 (i : Nat) : BufTy := match i % 128 with
  | 0 => ⟨S_, .i32⟩
  | 1 => ⟨S8192, .i32⟩
  | 2 => ⟨S_, .i32⟩
  | 3 => ⟨S8192, .i32⟩
  | 4 => ⟨S8192, .i1⟩
  | 5 => ⟨S_, .i32⟩
  | 6 => ⟨S8192, .i32⟩
  | 7 => ⟨S8192, .i32⟩
  | 8 => ⟨S8192, .i32⟩
  | 9 => ⟨S8192x1, .i32⟩
  | 10 => ⟨S1, .i32⟩
  | 11 => ⟨S_, .i32⟩
  | 12 => ⟨S8192x1, .i32⟩
  | 13 => ⟨S8192x1, .i1⟩
  | 14 => ⟨S1x1, .i32⟩
  | 15 => ⟨S8192x1, .i32⟩
  | 16 => ⟨S8192x1, .i1⟩
  | 17 => ⟨S8192x1, .i1⟩
  | 18 => ⟨S_, .i1⟩
  | 19 => ⟨S8192, .i1⟩
  | 20 => ⟨S8192x256, .f32⟩
  | 21 => ⟨S8192x256, .i1⟩
  | 22 => ⟨S_, .f32⟩
  | 23 => ⟨S8192x256, .f32⟩
  | 24 => ⟨S8192x256, .f32⟩
  | 25 => ⟨S8192x1, .i32⟩
  | 26 => ⟨S1x1024, .i32⟩
  | 27 => ⟨S8192x1024, .i32⟩
  | 28 => ⟨S8192x1024, .i32⟩
  | 29 => ⟨S8192x1024, .i1⟩
  | 30 => ⟨S8192x1024, .f32⟩
  | 31 => ⟨S_, .f32⟩
  | 32 => ⟨S1024, .f32⟩
  | 33 => ⟨S_, .f32⟩
  | 34 => ⟨S_, .f32⟩
  | 35 => ⟨S_, .f32⟩
  | 36 => ⟨S1024, .f32⟩
  | 37 => ⟨S1024, .f32⟩
  | 38 => ⟨S_, .f32⟩
  | 39 => ⟨S1024, .f32⟩
  | 40 => ⟨S1024, .f32⟩
  | 41 => ⟨S1024, .f32⟩
  | 42 => ⟨S1024, .f32⟩
  | 43 => ⟨S_, .f32⟩
  | 44 => ⟨S_, .f32⟩
  | 45 => ⟨S_, .f32⟩
  | 46 => ⟨S_, .f32⟩
  | 47 => ⟨S8192x256, .f32⟩
  | 48 => ⟨S8192x256, .f32⟩
  | 49 => ⟨S_, .f32⟩
  | 50 => ⟨S_, .f32⟩
  | 51 => ⟨S_, .f32⟩
  | 52 => ⟨S_, .f32⟩
  | 53 => ⟨S8192x256, .f32⟩
  | 54 => ⟨S8192x256, .f32⟩
  | 55 => ⟨S16x512x256, .f32⟩
  | 56 => ⟨S16x256x512, .f32⟩
  | 57 => ⟨S16x512, .i32⟩
  | 58 => ⟨S16x256x512, .f32⟩
  | 59 => ⟨S16x256x512, .f32⟩
  | 60 => ⟨S16x512x256, .f32⟩
  | 61 => ⟨S8192x256, .f32⟩
  | 62 => ⟨S1x1024x256, .f32⟩
  | 63 => ⟨S1024x256, .f32⟩
  | 64 => ⟨S8192x256, .f32⟩
  | 65 => ⟨S_, .f32⟩
  | 66 => ⟨S8192, .f32⟩
  | 67 => ⟨S8192x1, .f32⟩
  | 68 => ⟨S256x1024, .f32⟩
  | 69 => ⟨S8192x1024, .f32⟩
  | 70 => ⟨S_, .f32⟩
  | 71 => ⟨S8192x1024, .f32⟩
  | 72 => ⟨S8192x1024, .f32⟩
  | 73 => ⟨S8192x1024, .f32⟩
  | 74 => ⟨S8192x1024, .f32⟩
  | 75 => ⟨S1024x256, .f32⟩
  | 76 => ⟨S_, .f32⟩
  | 77 => ⟨S1024, .f32⟩
  | 78 => ⟨S1x1024, .f32⟩
  | 79 => ⟨S8192x1024, .f32⟩
  | 80 => ⟨S8192x1024, .f32⟩
  | 81 => ⟨S8192x1024, .f32⟩
  | 82 => ⟨S_, .f32⟩
  | 83 => ⟨S8192, .f32⟩
  | 84 => ⟨S8192x1, .f32⟩
  | 85 => ⟨S8192x1024, .i32⟩
  | 86 => ⟨S8192x1024, .f32⟩
  | 87 => ⟨S8192x1024, .i1⟩
  | 88 => ⟨S_, .i32⟩
  | 89 => ⟨S_, .i32⟩
  | 90 => ⟨S8192x1024, .i32⟩
  | 91 => ⟨S8192x1024, .i32⟩
  | 92 => ⟨S_, .i32⟩
  | 93 => ⟨S8192, .i32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S1, .i32⟩
  | 103 => ⟨S_, .i32⟩
  | 104 => ⟨S8192x1, .i32⟩
  | 105 => ⟨S8192x1, .i1⟩
  | 106 => ⟨S1x1, .i32⟩
  | 107 => ⟨S8192x1, .i32⟩
  | 108 => ⟨S8192x1, .i1⟩
  | 109 => ⟨S8192x1, .i1⟩
  | 110 => ⟨S_, .i1⟩
  | 111 => ⟨S8192, .i1⟩
  | 112 => ⟨S8192x256, .f32⟩
  | 113 => ⟨S8192x256, .i1⟩
  | 114 => ⟨S_, .f32⟩
  | 115 => ⟨S8192x256, .f32⟩
  | 116 => ⟨S8192x256, .f32⟩
  | 117 => ⟨S8192x1, .i32⟩
  | 118 => ⟨S1x1024, .i32⟩
  | 119 => ⟨S8192x1024, .i32⟩
  | 120 => ⟨S8192x1024, .i32⟩
  | 121 => ⟨S8192x1024, .i1⟩
  | 122 => ⟨S8192x1024, .f32⟩
  | 123 => ⟨S_, .f32⟩
  | 124 => ⟨S1024, .f32⟩
  | 125 => ⟨S_, .f32⟩
  | 126 => ⟨S_, .f32⟩
  | 127 => ⟨S_, .f32⟩
  | _ => ⟨S16x256x512, .f32⟩

abbrev hbmTy0_2 (i : Nat) : BufTy := match i % 128 with
  | 0 => ⟨S1024, .f32⟩
  | 1 => ⟨S1024, .f32⟩
  | 2 => ⟨S_, .f32⟩
  | 3 => ⟨S1024, .f32⟩
  | 4 => ⟨S1024, .f32⟩
  | 5 => ⟨S1024, .f32⟩
  | 6 => ⟨S1024, .f32⟩
  | 7 => ⟨S_, .f32⟩
  | 8 => ⟨S_, .f32⟩
  | 9 => ⟨S_, .f32⟩
  | 10 => ⟨S_, .f32⟩
  | 11 => ⟨S8192x256, .f32⟩
  | 12 => ⟨S8192x256, .f32⟩
  | 13 => ⟨S_, .f32⟩
  | 14 => ⟨S_, .f32⟩
  | 15 => ⟨S_, .f32⟩
  | 16 => ⟨S_, .f32⟩
  | 17 => ⟨S8192x256, .f32⟩
  | 18 => ⟨S8192x256, .f32⟩
  | 19 => ⟨S16x512x256, .f32⟩
  | 20 => ⟨S16x256x512, .f32⟩
  | 21 => ⟨S16x512, .i32⟩
  | 22 => ⟨S16x256x512, .f32⟩
  | 23 => ⟨S16x256x512, .f32⟩
  | 24 => ⟨S16x512x256, .f32⟩
  | 25 => ⟨S8192x256, .f32⟩
  | 26 => ⟨S1x1024x256, .f32⟩
  | 27 => ⟨S1024x256, .f32⟩
  | 28 => ⟨S8192x256, .f32⟩
  | 29 => ⟨S_, .f32⟩
  | 30 => ⟨S8192, .f32⟩
  | 31 => ⟨S8192x1, .f32⟩
  | 32 => ⟨S256x1024, .f32⟩
  | 33 => ⟨S8192x1024, .f32⟩
  | 34 => ⟨S_, .f32⟩
  | 35 => ⟨S8192x1024, .f32⟩
  | 36 => ⟨S8192x1024, .f32⟩
  | 37 => ⟨S8192x1024, .f32⟩
  | 38 => ⟨S8192x1024, .f32⟩
  | 39 => ⟨S1024x256, .f32⟩
  | 40 => ⟨S_, .f32⟩
  | 41 => ⟨S1024, .f32⟩
  | 42 => ⟨S1x1024, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S8192x1024, .i32⟩
  | 50 => ⟨S8192x1024, .f32⟩
  | 51 => ⟨S8192x1024, .i1⟩
  | 52 => ⟨S_, .i32⟩
  | 53 => ⟨S_, .i32⟩
  | 54 => ⟨S8192x1024, .i32⟩
  | 55 => ⟨S8192x1024, .i32⟩
  | 56 => ⟨S_, .i32⟩
  | 57 => ⟨S8192, .i32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S8192x1, .i32⟩
  | 66 => ⟨S1, .i32⟩
  | 67 => ⟨S_, .i32⟩
  | 68 => ⟨S8192x1, .i32⟩
  | 69 => ⟨S8192x1, .i1⟩
  | 70 => ⟨S1x1, .i32⟩
  | 71 => ⟨S8192x1, .i32⟩
  | 72 => ⟨S8192x1, .i1⟩
  | 73 => ⟨S8192x1, .i1⟩
  | 74 => ⟨S_, .i1⟩
  | 75 => ⟨S8192, .i1⟩
  | 76 => ⟨S8192x256, .f32⟩
  | 77 => ⟨S8192x256, .i1⟩
  | 78 => ⟨S_, .f32⟩
  | 79 => ⟨S8192x256, .f32⟩
  | 80 => ⟨S8192x256, .f32⟩
  | 81 => ⟨S8192x1, .i32⟩
  | 82 => ⟨S1x1024, .i32⟩
  | 83 => ⟨S8192x1024, .i32⟩
  | 84 => ⟨S8192x1024, .i32⟩
  | 85 => ⟨S8192x1024, .i1⟩
  | 86 => ⟨S8192x1024, .f32⟩
  | 87 => ⟨S_, .f32⟩
  | 88 => ⟨S1024, .f32⟩
  | 89 => ⟨S_, .f32⟩
  | 90 => ⟨S_, .f32⟩
  | 91 => ⟨S_, .f32⟩
  | 92 => ⟨S1024, .f32⟩
  | 93 => ⟨S1024, .f32⟩
  | 94 => ⟨S_, .f32⟩
  | 95 => ⟨S1024, .f32⟩
  | 96 => ⟨S1024, .f32⟩
  | 97 => ⟨S1024, .f32⟩
  | 98 => ⟨S1024, .f32⟩
  | 99 => ⟨S_, .f32⟩
  | 100 => ⟨S_, .f32⟩
  | 101 => ⟨S_, .f32⟩
  | 102 => ⟨S_, .f32⟩
  | 103 => ⟨S8192x256, .f32⟩
  | 104 => ⟨S8192x256, .f32⟩
  | 105 => ⟨S_, .f32⟩
  | 106 => ⟨S_, .f32⟩
  | 107 => ⟨S_, .f32⟩
  | 108 => ⟨S_, .f32⟩
  | 109 => ⟨S8192x256, .f32⟩
  | 110 => ⟨S8192x256, .f32⟩
  | 111 => ⟨S16x512x256, .f32⟩
  | 112 => ⟨S16x256x512, .f32⟩
  | 113 => ⟨S16x512, .i32⟩
  | 114 => ⟨S16x256x512, .f32⟩
  | 115 => ⟨S16x256x512, .f32⟩
  | 116 => ⟨S16x512x256, .f32⟩
  | 117 => ⟨S8192x256, .f32⟩
  | 118 => ⟨S1x1024x256, .f32⟩
  | 119 => ⟨S1024x256, .f32⟩
  | 120 => ⟨S8192x256, .f32⟩
  | 121 => ⟨S_, .f32⟩
  | 122 => ⟨S8192, .f32⟩
  | 123 => ⟨S8192x1, .f32⟩
  | 124 => ⟨S256x1024, .f32⟩
  | 125 => ⟨S8192x1024, .f32⟩
  | 126 => ⟨S_, .f32⟩
  | 127 => ⟨S8192x1024, .f32⟩
  | _ => ⟨S16x256x512, .f32⟩

abbrev hbmTy0_3 (i : Nat) : BufTy := match i % 128 with
  | 0 => ⟨S8192x1024, .f32⟩
  | 1 => ⟨S8192x1024, .f32⟩
  | 2 => ⟨S8192x1024, .f32⟩
  | 3 => ⟨S1024x256, .f32⟩
  | 4 => ⟨S_, .f32⟩
  | 5 => ⟨S1024, .f32⟩
  | 6 => ⟨S1x1024, .f32⟩
  | 7 => ⟨S8192x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S8192x1024, .i32⟩
  | 14 => ⟨S8192x1024, .f32⟩
  | 15 => ⟨S8192x1024, .i1⟩
  | 16 => ⟨S_, .i32⟩
  | 17 => ⟨S_, .i32⟩
  | 18 => ⟨S8192x1024, .i32⟩
  | 19 => ⟨S8192x1024, .i32⟩
  | 20 => ⟨S_, .i32⟩
  | 21 => ⟨S8192, .i32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S1, .i32⟩
  | 31 => ⟨S_, .i32⟩
  | 32 => ⟨S8192x1, .i32⟩
  | 33 => ⟨S8192x1, .i1⟩
  | 34 => ⟨S1x1, .i32⟩
  | 35 => ⟨S8192x1, .i32⟩
  | 36 => ⟨S8192x1, .i1⟩
  | 37 => ⟨S8192x1, .i1⟩
  | 38 => ⟨S_, .i1⟩
  | 39 => ⟨S8192, .i1⟩
  | 40 => ⟨S8192x256, .f32⟩
  | 41 => ⟨S8192x256, .i1⟩
  | 42 => ⟨S_, .f32⟩
  | 43 => ⟨S8192x256, .f32⟩
  | 44 => ⟨S8192x256, .f32⟩
  | 45 => ⟨S8192x1, .i32⟩
  | 46 => ⟨S1x1024, .i32⟩
  | 47 => ⟨S8192x1024, .i32⟩
  | 48 => ⟨S8192x1024, .i32⟩
  | 49 => ⟨S8192x1024, .i1⟩
  | 50 => ⟨S8192x1024, .f32⟩
  | 51 => ⟨S_, .f32⟩
  | 52 => ⟨S1024, .f32⟩
  | 53 => ⟨S_, .f32⟩
  | 54 => ⟨S_, .f32⟩
  | 55 => ⟨S_, .f32⟩
  | 56 => ⟨S1024, .f32⟩
  | 57 => ⟨S1024, .f32⟩
  | 58 => ⟨S_, .f32⟩
  | 59 => ⟨S1024, .f32⟩
  | 60 => ⟨S1024, .f32⟩
  | 61 => ⟨S1024, .f32⟩
  | 62 => ⟨S1024, .f32⟩
  | 63 => ⟨S_, .f32⟩
  | 64 => ⟨S_, .f32⟩
  | 65 => ⟨S_, .f32⟩
  | 66 => ⟨S_, .f32⟩
  | 67 => ⟨S8192x256, .f32⟩
  | 68 => ⟨S8192x256, .f32⟩
  | 69 => ⟨S_, .f32⟩
  | 70 => ⟨S_, .f32⟩
  | 71 => ⟨S_, .f32⟩
  | 72 => ⟨S_, .f32⟩
  | 73 => ⟨S8192x256, .f32⟩
  | 74 => ⟨S8192x256, .f32⟩
  | 75 => ⟨S16x512x256, .f32⟩
  | 76 => ⟨S16x256x512, .f32⟩
  | 77 => ⟨S16x512, .i32⟩
  | 78 => ⟨S16x256x512, .f32⟩
  | 79 => ⟨S16x256x512, .f32⟩
  | 80 => ⟨S16x512x256, .f32⟩
  | 81 => ⟨S8192x256, .f32⟩
  | 82 => ⟨S1x1024x256, .f32⟩
  | 83 => ⟨S1024x256, .f32⟩
  | 84 => ⟨S8192x256, .f32⟩
  | 85 => ⟨S_, .f32⟩
  | 86 => ⟨S8192, .f32⟩
  | 87 => ⟨S8192x1, .f32⟩
  | 88 => ⟨S256x1024, .f32⟩
  | 89 => ⟨S8192x1024, .f32⟩
  | 90 => ⟨S_, .f32⟩
  | 91 => ⟨S8192x1024, .f32⟩
  | 92 => ⟨S8192x1024, .f32⟩
  | 93 => ⟨S8192x1024, .f32⟩
  | 94 => ⟨S8192x1024, .f32⟩
  | 95 => ⟨S1024x256, .f32⟩
  | 96 => ⟨S_, .f32⟩
  | 97 => ⟨S1024, .f32⟩
  | 98 => ⟨S1x1024, .f32⟩
  | 99 => ⟨S8192x1024, .f32⟩
  | 100 => ⟨S8192x1024, .f32⟩
  | 101 => ⟨S8192x1024, .f32⟩
  | 102 => ⟨S_, .f32⟩
  | 103 => ⟨S8192, .f32⟩
  | 104 => ⟨S8192x1, .f32⟩
  | 105 => ⟨S8192x1024, .i32⟩
  | 106 => ⟨S8192x1024, .f32⟩
  | 107 => ⟨S8192x1024, .i1⟩
  | 108 => ⟨S_, .i32⟩
  | 109 => ⟨S_, .i32⟩
  | 110 => ⟨S8192x1024, .i32⟩
  | 111 => ⟨S8192x1024, .i32⟩
  | 112 => ⟨S_, .i32⟩
  | 113 => ⟨S8192, .i32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S1, .i32⟩
  | 123 => ⟨S_, .i32⟩
  | 124 => ⟨S8192x1, .i32⟩
  | 125 => ⟨S8192x1, .i1⟩
  | 126 => ⟨S1x1, .i32⟩
  | 127 => ⟨S8192x1, .i32⟩
  | _ => ⟨S16x256x512, .f32⟩

abbrev hbmTy0_4 (i : Nat) : BufTy := match i % 128 with
  | 0 => ⟨S8192x1, .i1⟩
  | 1 => ⟨S8192x1, .i1⟩
  | 2 => ⟨S_, .i1⟩
  | 3 => ⟨S8192, .i1⟩
  | 4 => ⟨S8192x256, .f32⟩
  | 5 => ⟨S8192x256, .i1⟩
  | 6 => ⟨S_, .f32⟩
  | 7 => ⟨S8192x256, .f32⟩
  | 8 => ⟨S8192x256, .f32⟩
  | 9 => ⟨S8192x1, .i32⟩
  | 10 => ⟨S1x1024, .i32⟩
  | 11 => ⟨S8192x1024, .i32⟩
  | 12 => ⟨S8192x1024, .i32⟩
  | 13 => ⟨S8192x1024, .i1⟩
  | 14 => ⟨S8192x1024, .f32⟩
  | 15 => ⟨S_, .f32⟩
  | 16 => ⟨S1024, .f32⟩
  | 17 => ⟨S_, .f32⟩
  | 18 => ⟨S_, .f32⟩
  | 19 => ⟨S_, .f32⟩
  | 20 => ⟨S1024, .f32⟩
  | 21 => ⟨S1024, .f32⟩
  | 22 => ⟨S_, .f32⟩
  | 23 => ⟨S1024, .f32⟩
  | 24 => ⟨S1024, .f32⟩
  | 25 => ⟨S1024, .f32⟩
  | 26 => ⟨S1024, .f32⟩
  | 27 => ⟨S_, .f32⟩
  | 28 => ⟨S_, .f32⟩
  | 29 => ⟨S_, .f32⟩
  | 30 => ⟨S_, .f32⟩
  | 31 => ⟨S8192x256, .f32⟩
  | 32 => ⟨S8192x256, .f32⟩
  | 33 => ⟨S_, .f32⟩
  | 34 => ⟨S_, .f32⟩
  | 35 => ⟨S_, .f32⟩
  | 36 => ⟨S_, .f32⟩
  | 37 => ⟨S8192x256, .f32⟩
  | 38 => ⟨S8192x256, .f32⟩
  | 39 => ⟨S16x512x256, .f32⟩
  | 40 => ⟨S16x256x512, .f32⟩
  | 41 => ⟨S16x512, .i32⟩
  | 42 => ⟨S16x256x512, .f32⟩
  | 43 => ⟨S16x256x512, .f32⟩
  | 44 => ⟨S16x512x1, .i32⟩
  | 45 => ⟨S16x512x1, .i32⟩
  | 46 => ⟨S16x512x1, .i32⟩
  | 47 => ⟨S16x512x1, .i32⟩
  | 48 => ⟨S16x512x1, .i32⟩
  | 49 => ⟨S16x512x1, .i32⟩
  | 50 => ⟨S16x512x6, .i32⟩
  | 51 => ⟨S1, .f32⟩
  | 52 => ⟨S1, .f32⟩
  | 53 => ⟨S1, .f32⟩
  | 54 => ⟨S1, .f32⟩
  | 55 => ⟨S1, .f32⟩
  | 56 => ⟨S1, .f32⟩
  | 57 => ⟨S6, .f32⟩
  | 58 => ⟨S_, .f32⟩
  | 59 => ⟨S_, .f32⟩
  | 60 => ⟨S_, .f32⟩
  | 61 => ⟨S_, .f32⟩
  | 62 => ⟨S1, .f32⟩
  | 63 => ⟨S1, .f32⟩
  | 64 => ⟨S1, .f32⟩
  | 65 => ⟨S1, .f32⟩
  | 66 => ⟨S1, .f32⟩
  | 67 => ⟨S1, .f32⟩
  | 68 => ⟨S6, .f32⟩
  | 69 => ⟨S_, .f32⟩
  | 70 => ⟨S_, .f32⟩
  | 71 => ⟨S_, .f32⟩
  | 72 => ⟨S_, .f32⟩
  | _ => ⟨S16x256x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x256x512, .f32⟩

abbrev bufTy : (tb : Table) → Fin (tcTables nBuf tb) → BufTy
  | .hbm, ⟨i, _⟩ => hbmTy i
  | _, _ => ⟨S16x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v27 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v28 : Ref sig .tc := ⟨.hbm, 66, rfl⟩
abbrev main_cst_5 : Ref sig .tc := ⟨.hbm, 67, rfl⟩
abbrev main_v29 : Ref sig .tc := ⟨.hbm, 68, rfl⟩
abbrev main_cst_6 : Ref sig .tc := ⟨.hbm, 69, rfl⟩
abbrev main_cst_7 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_8 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_9 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_10 : Ref sig .tc := ⟨.hbm, 85, rfl⟩
abbrev main_v42 : Ref sig .tc := ⟨.hbm, 86, rfl⟩
abbrev main_cst_11 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_12 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_13 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_14 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_15 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_c_16 : Ref sig .tc := ⟨.hbm, 124, rfl⟩
abbrev main_call3_v0 : Ref sig .tc := ⟨.hbm, 125, rfl⟩
abbrev main_call3_v1 : Ref sig .tc := ⟨.hbm, 126, rfl⟩
abbrev main_v75 : Ref sig .tc := ⟨.hbm, 127, rfl⟩
abbrev main_c_17 : Ref sig .tc := ⟨.hbm, 128, rfl⟩
abbrev main_v76 : Ref sig .tc := ⟨.hbm, 129, rfl⟩
abbrev main_call4_c : Ref sig .tc := ⟨.hbm, 130, rfl⟩
abbrev main_call4_v0 : Ref sig .tc := ⟨.hbm, 131, rfl⟩
abbrev main_call4_v1 : Ref sig .tc := ⟨.hbm, 132, rfl⟩
abbrev main_call4_c_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_v5 : Ref sig .tc := ⟨.hbm, 137, rfl⟩
abbrev main_call4_c_1 : Ref sig .tc := ⟨.hbm, 138, rfl⟩
abbrev main_call4_c_2 : Ref sig .tc := ⟨.hbm, 139, rfl⟩
abbrev main_call4_v6 : Ref sig .tc := ⟨.hbm, 140, rfl⟩
abbrev main_call4_v7 : Ref sig .tc := ⟨.hbm, 141, rfl⟩
abbrev main_call4_v8 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_c_3 : Ref sig .tc := ⟨.hbm, 146, rfl⟩
abbrev main_call4_v12 : Ref sig .tc := ⟨.hbm, 147, rfl⟩
abbrev main_call4_v13 : Ref sig .tc := ⟨.hbm, 148, rfl⟩
abbrev main_call4_v14 : Ref sig .tc := ⟨.hbm, 149, rfl⟩
abbrev main_call4_cst : Ref sig .tc := ⟨.hbm, 150, rfl⟩
abbrev main_call4_v15 : Ref sig .tc := ⟨.hbm, 151, rfl⟩
abbrev main_v77 : Ref sig .tc := ⟨.hbm, 152, rfl⟩
abbrev main_call5_v0 : Ref sig .tc := ⟨.hbm, 153, rfl⟩
abbrev main_call5_v1 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_v78 : Ref sig .tc := ⟨.hbm, 158, rfl⟩
abbrev main_cst_18 : Ref sig .tc := ⟨.hbm, 159, rfl⟩
abbrev main_v79 : Ref sig .tc := ⟨.hbm, 160, rfl⟩
abbrev main_cst_19 : Ref sig .tc := ⟨.hbm, 161, rfl⟩
abbrev main_cst_20 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_21 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_cst_22 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_cst_23 : Ref sig .tc := ⟨.hbm, 177, rfl⟩
abbrev main_v92 : Ref sig .tc := ⟨.hbm, 178, rfl⟩
abbrev main_cst_24 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_cst_25 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_cst_26 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_cst_27 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_cst_28 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_c_29 : Ref sig .tc := ⟨.hbm, 216, rfl⟩
abbrev main_call6_v0 : Ref sig .tc := ⟨.hbm, 217, rfl⟩
abbrev main_call6_v1 : Ref sig .tc := ⟨.hbm, 218, rfl⟩
abbrev main_v125 : Ref sig .tc := ⟨.hbm, 219, rfl⟩
abbrev main_c_30 : Ref sig .tc := ⟨.hbm, 220, rfl⟩
abbrev main_v126 : Ref sig .tc := ⟨.hbm, 221, rfl⟩
abbrev main_call7_c : Ref sig .tc := ⟨.hbm, 222, rfl⟩
abbrev main_call7_v0 : Ref sig .tc := ⟨.hbm, 223, rfl⟩
abbrev main_call7_v1 : Ref sig .tc := ⟨.hbm, 224, rfl⟩
abbrev main_call7_c_0 : Ref sig .tc := ⟨.hbm, 225, rfl⟩
abbrev main_call7_v2 : Ref sig .tc := ⟨.hbm, 226, rfl⟩
abbrev main_call7_v3 : Ref sig .tc := ⟨.hbm, 227, rfl⟩
abbrev main_call7_v4 : Ref sig .tc := ⟨.hbm, 228, rfl⟩
abbrev main_call7_v5 : Ref sig .tc := ⟨.hbm, 229, rfl⟩
abbrev main_call7_c_1 : Ref sig .tc := ⟨.hbm, 230, rfl⟩
abbrev main_call7_c_2 : Ref sig .tc := ⟨.hbm, 231, rfl⟩
abbrev main_call7_v6 : Ref sig .tc := ⟨.hbm, 232, rfl⟩
abbrev main_call7_v7 : Ref sig .tc := ⟨.hbm, 233, rfl⟩
abbrev main_call7_v8 : Ref sig .tc := ⟨.hbm, 234, rfl⟩
abbrev main_call7_v9 : Ref sig .tc := ⟨.hbm, 235, rfl⟩
abbrev main_call7_v10 : Ref sig .tc := ⟨.hbm, 236, rfl⟩
abbrev main_call7_v11 : Ref sig .tc := ⟨.hbm, 237, rfl⟩
abbrev main_call7_c_3 : Ref sig .tc := ⟨.hbm, 238, rfl⟩
abbrev main_call7_v12 : Ref sig .tc := ⟨.hbm, 239, rfl⟩
abbrev main_call7_v13 : Ref sig .tc := ⟨.hbm, 240, rfl⟩
abbrev main_call7_v14 : Ref sig .tc := ⟨.hbm, 241, rfl⟩
abbrev main_call7_cst : Ref sig .tc := ⟨.hbm, 242, rfl⟩
abbrev main_call7_v15 : Ref sig .tc := ⟨.hbm, 243, rfl⟩
abbrev main_v127 : Ref sig .tc := ⟨.hbm, 244, rfl⟩
abbrev main_call8_v0 : Ref sig .tc := ⟨.hbm, 245, rfl⟩
abbrev main_call8_v1 : Ref sig .tc := ⟨.hbm, 246, rfl⟩
abbrev main_call8_v2 : Ref sig .tc := ⟨.hbm, 247, rfl⟩
abbrev main_call8_v3 : Ref sig .tc := ⟨.hbm, 248, rfl⟩
abbrev main_call8_v4 : Ref sig .tc := ⟨.hbm, 249, rfl⟩
abbrev main_v128 : Ref sig .tc := ⟨.hbm, 250, rfl⟩
abbrev main_cst_31 : Ref sig .tc := ⟨.hbm, 251, rfl⟩
abbrev main_v129 : Ref sig .tc := ⟨.hbm, 252, rfl⟩
abbrev main_cst_32 : Ref sig .tc := ⟨.hbm, 253, rfl⟩
abbrev main_cst_33 : Ref sig .tc := ⟨.hbm, 254, rfl⟩
abbrev main_v130 : Ref sig .tc := ⟨.hbm, 255, rfl⟩
abbrev main_v131 : Ref sig .tc := ⟨.hbm, 256, rfl⟩
abbrev main_v132 : Ref sig .tc := ⟨.hbm, 257, rfl⟩
abbrev main_cst_34 : Ref sig .tc := ⟨.hbm, 258, rfl⟩
abbrev main_v133 : Ref sig .tc := ⟨.hbm, 259, rfl⟩
abbrev main_v134 : Ref sig .tc := ⟨.hbm, 260, rfl⟩
abbrev main_v135 : Ref sig .tc := ⟨.hbm, 261, rfl⟩
abbrev main_v136 : Ref sig .tc := ⟨.hbm, 262, rfl⟩
abbrev main_cst_35 : Ref sig .tc := ⟨.hbm, 263, rfl⟩
abbrev main_v137 : Ref sig .tc := ⟨.hbm, 264, rfl⟩
abbrev main_v138 : Ref sig .tc := ⟨.hbm, 265, rfl⟩
abbrev main_v139 : Ref sig .tc := ⟨.hbm, 266, rfl⟩
abbrev main_v140 : Ref sig .tc := ⟨.hbm, 267, rfl⟩
abbrev main_v141 : Ref sig .tc := ⟨.hbm, 268, rfl⟩
abbrev main_cst_36 : Ref sig .tc := ⟨.hbm, 269, rfl⟩
abbrev main_v142 : Ref sig .tc := ⟨.hbm, 270, rfl⟩
abbrev main_cst_37 : Ref sig .tc := ⟨.hbm, 271, rfl⟩
abbrev main_v143 : Ref sig .tc := ⟨.hbm, 272, rfl⟩
abbrev main_v144 : Ref sig .tc := ⟨.hbm, 273, rfl⟩
abbrev main_v145 : Ref sig .tc := ⟨.hbm, 274, rfl⟩
abbrev main_v146 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_v153 : Ref sig .tc := ⟨.hbm, 282, rfl⟩
abbrev main_v154 : Ref sig .tc := ⟨.hbm, 283, rfl⟩
abbrev main_v155 : Ref sig .tc := ⟨.hbm, 284, rfl⟩
abbrev main_cst_38 : Ref sig .tc := ⟨.hbm, 285, rfl⟩
abbrev main_v156 : Ref sig .tc := ⟨.hbm, 286, rfl⟩
abbrev main_v157 : Ref sig .tc := ⟨.hbm, 287, rfl⟩
abbrev main_v158 : Ref sig .tc := ⟨.hbm, 288, rfl⟩
abbrev main_v159 : Ref sig .tc := ⟨.hbm, 289, rfl⟩
abbrev main_cst_39 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_v163 : Ref sig .tc := ⟨.hbm, 294, rfl⟩
abbrev main_v164 : Ref sig .tc := ⟨.hbm, 295, rfl⟩
abbrev main_cst_40 : Ref sig .tc := ⟨.hbm, 296, rfl⟩
abbrev main_v165 : Ref sig .tc := ⟨.hbm, 297, rfl⟩
abbrev main_v166 : Ref sig .tc := ⟨.hbm, 298, rfl⟩
abbrev main_v167 : Ref sig .tc := ⟨.hbm, 299, rfl⟩
abbrev main_v168 : Ref sig .tc := ⟨.hbm, 300, rfl⟩
abbrev main_v169 : Ref sig .tc := ⟨.hbm, 301, rfl⟩
abbrev main_cst_41 : Ref sig .tc := ⟨.hbm, 302, rfl⟩
abbrev main_v170 : Ref sig .tc := ⟨.hbm, 303, rfl⟩
abbrev main_v171 : Ref sig .tc := ⟨.hbm, 304, rfl⟩
abbrev main_v172 : Ref sig .tc := ⟨.hbm, 305, rfl⟩
abbrev main_v173 : Ref sig .tc := ⟨.hbm, 306, rfl⟩
abbrev main_v174 : Ref sig .tc := ⟨.hbm, 307, rfl⟩
abbrev main_c_42 : Ref sig .tc := ⟨.hbm, 308, rfl⟩
abbrev main_call9_v0 : Ref sig .tc := ⟨.hbm, 309, rfl⟩
abbrev main_call9_v1 : Ref sig .tc := ⟨.hbm, 310, rfl⟩
abbrev main_v175 : Ref sig .tc := ⟨.hbm, 311, rfl⟩
abbrev main_c_43 : Ref sig .tc := ⟨.hbm, 312, rfl⟩
abbrev main_v176 : Ref sig .tc := ⟨.hbm, 313, rfl⟩
abbrev main_call10_c : Ref sig .tc := ⟨.hbm, 314, rfl⟩
abbrev main_call10_v0 : Ref sig .tc := ⟨.hbm, 315, rfl⟩
abbrev main_call10_v1 : Ref sig .tc := ⟨.hbm, 316, rfl⟩
abbrev main_call10_c_0 : Ref sig .tc := ⟨.hbm, 317, rfl⟩
abbrev main_call10_v2 : Ref sig .tc := ⟨.hbm, 318, rfl⟩
abbrev main_call10_v3 : Ref sig .tc := ⟨.hbm, 319, rfl⟩
abbrev main_call10_v4 : Ref sig .tc := ⟨.hbm, 320, rfl⟩
abbrev main_call10_v5 : Ref sig .tc := ⟨.hbm, 321, rfl⟩
abbrev main_call10_c_1 : Ref sig .tc := ⟨.hbm, 322, rfl⟩
abbrev main_call10_c_2 : Ref sig .tc := ⟨.hbm, 323, rfl⟩
abbrev main_call10_v6 : Ref sig .tc := ⟨.hbm, 324, rfl⟩
abbrev main_call10_v7 : Ref sig .tc := ⟨.hbm, 325, rfl⟩
abbrev main_call10_v8 : Ref sig .tc := ⟨.hbm, 326, rfl⟩
abbrev main_call10_v9 : Ref sig .tc := ⟨.hbm, 327, rfl⟩
abbrev main_call10_v10 : Ref sig .tc := ⟨.hbm, 328, rfl⟩
abbrev main_call10_v11 : Ref sig .tc := ⟨.hbm, 329, rfl⟩
abbrev main_call10_c_3 : Ref sig .tc := ⟨.hbm, 330, rfl⟩
abbrev main_call10_v12 : Ref sig .tc := ⟨.hbm, 331, rfl⟩
abbrev main_call10_v13 : Ref sig .tc := ⟨.hbm, 332, rfl⟩
abbrev main_call10_v14 : Ref sig .tc := ⟨.hbm, 333, rfl⟩
abbrev main_call10_cst : Ref sig .tc := ⟨.hbm, 334, rfl⟩
abbrev main_call10_v15 : Ref sig .tc := ⟨.hbm, 335, rfl⟩
abbrev main_v177 : Ref sig .tc := ⟨.hbm, 336, rfl⟩
abbrev main_call11_v0 : Ref sig .tc := ⟨.hbm, 337, rfl⟩
abbrev main_call11_v1 : Ref sig .tc := ⟨.hbm, 338, rfl⟩
abbrev main_call11_v2 : Ref sig .tc := ⟨.hbm, 339, rfl⟩
abbrev main_call11_v3 : Ref sig .tc := ⟨.hbm, 340, rfl⟩
abbrev main_call11_v4 : Ref sig .tc := ⟨.hbm, 341, rfl⟩
abbrev main_v178 : Ref sig .tc := ⟨.hbm, 342, rfl⟩
abbrev main_cst_44 : Ref sig .tc := ⟨.hbm, 343, rfl⟩
abbrev main_v179 : Ref sig .tc := ⟨.hbm, 344, rfl⟩
abbrev main_cst_45 : Ref sig .tc := ⟨.hbm, 345, rfl⟩
abbrev main_cst_46 : Ref sig .tc := ⟨.hbm, 346, rfl⟩
abbrev main_v180 : Ref sig .tc := ⟨.hbm, 347, rfl⟩
abbrev main_v181 : Ref sig .tc := ⟨.hbm, 348, rfl⟩
abbrev main_v182 : Ref sig .tc := ⟨.hbm, 349, rfl⟩
abbrev main_cst_47 : Ref sig .tc := ⟨.hbm, 350, rfl⟩
abbrev main_v183 : Ref sig .tc := ⟨.hbm, 351, rfl⟩
abbrev main_v184 : Ref sig .tc := ⟨.hbm, 352, rfl⟩
abbrev main_v185 : Ref sig .tc := ⟨.hbm, 353, rfl⟩
abbrev main_v186 : Ref sig .tc := ⟨.hbm, 354, rfl⟩
abbrev main_cst_48 : Ref sig .tc := ⟨.hbm, 355, rfl⟩
abbrev main_v187 : Ref sig .tc := ⟨.hbm, 356, rfl⟩
abbrev main_v188 : Ref sig .tc := ⟨.hbm, 357, rfl⟩
abbrev main_v189 : Ref sig .tc := ⟨.hbm, 358, rfl⟩
abbrev main_v190 : Ref sig .tc := ⟨.hbm, 359, rfl⟩
abbrev main_v191 : Ref sig .tc := ⟨.hbm, 360, rfl⟩
abbrev main_cst_49 : Ref sig .tc := ⟨.hbm, 361, rfl⟩
abbrev main_v192 : Ref sig .tc := ⟨.hbm, 362, rfl⟩
abbrev main_cst_50 : Ref sig .tc := ⟨.hbm, 363, rfl⟩
abbrev main_v193 : Ref sig .tc := ⟨.hbm, 364, rfl⟩
abbrev main_v194 : Ref sig .tc := ⟨.hbm, 365, rfl⟩
abbrev main_v195 : Ref sig .tc := ⟨.hbm, 366, rfl⟩
abbrev main_v196 : Ref sig .tc := ⟨.hbm, 367, rfl⟩
abbrev main_v197 : Ref sig .tc := ⟨.hbm, 368, rfl⟩
abbrev main_v198 : Ref sig .tc := ⟨.hbm, 369, rfl⟩
abbrev main_v199 : Ref sig .tc := ⟨.hbm, 370, rfl⟩
abbrev main_v200 : Ref sig .tc := ⟨.hbm, 371, rfl⟩
abbrev main_v201 : Ref sig .tc := ⟨.hbm, 372, rfl⟩
abbrev main_v202 : Ref sig .tc := ⟨.hbm, 373, rfl⟩
abbrev main_v203 : Ref sig .tc := ⟨.hbm, 374, rfl⟩
abbrev main_v204 : Ref sig .tc := ⟨.hbm, 375, rfl⟩
abbrev main_v205 : Ref sig .tc := ⟨.hbm, 376, rfl⟩
abbrev main_cst_51 : Ref sig .tc := ⟨.hbm, 377, rfl⟩
abbrev main_v206 : Ref sig .tc := ⟨.hbm, 378, rfl⟩
abbrev main_v207 : Ref sig .tc := ⟨.hbm, 379, rfl⟩
abbrev main_v208 : Ref sig .tc := ⟨.hbm, 380, rfl⟩
abbrev main_v209 : Ref sig .tc := ⟨.hbm, 381, rfl⟩
abbrev main_cst_52 : Ref sig .tc := ⟨.hbm, 382, rfl⟩
abbrev main_v210 : Ref sig .tc := ⟨.hbm, 383, rfl⟩
abbrev main_v211 : Ref sig .tc := ⟨.hbm, 384, rfl⟩
abbrev main_v212 : Ref sig .tc := ⟨.hbm, 385, rfl⟩
abbrev main_v213 : Ref sig .tc := ⟨.hbm, 386, rfl⟩
abbrev main_v214 : Ref sig .tc := ⟨.hbm, 387, rfl⟩
abbrev main_cst_53 : Ref sig .tc := ⟨.hbm, 388, rfl⟩
abbrev main_v215 : Ref sig .tc := ⟨.hbm, 389, rfl⟩
abbrev main_v216 : Ref sig .tc := ⟨.hbm, 390, rfl⟩
abbrev main_v217 : Ref sig .tc := ⟨.hbm, 391, rfl⟩
abbrev main_v218 : Ref sig .tc := ⟨.hbm, 392, rfl⟩
abbrev main_v219 : Ref sig .tc := ⟨.hbm, 393, rfl⟩
abbrev main_cst_54 : Ref sig .tc := ⟨.hbm, 394, rfl⟩
abbrev main_v220 : Ref sig .tc := ⟨.hbm, 395, rfl⟩
abbrev main_v221 : Ref sig .tc := ⟨.hbm, 396, rfl⟩
abbrev main_v222 : Ref sig .tc := ⟨.hbm, 397, rfl⟩
abbrev main_v223 : Ref sig .tc := ⟨.hbm, 398, rfl⟩
abbrev main_v224 : Ref sig .tc := ⟨.hbm, 399, rfl⟩
abbrev main_c_55 : Ref sig .tc := ⟨.hbm, 400, rfl⟩
abbrev main_call12_v0 : Ref sig .tc := ⟨.hbm, 401, rfl⟩
abbrev main_call12_v1 : Ref sig .tc := ⟨.hbm, 402, rfl⟩
abbrev main_v225 : Ref sig .tc := ⟨.hbm, 403, rfl⟩
abbrev main_c_56 : Ref sig .tc := ⟨.hbm, 404, rfl⟩
abbrev main_v226 : Ref sig .tc := ⟨.hbm, 405, rfl⟩
abbrev main_call13_c : Ref sig .tc := ⟨.hbm, 406, rfl⟩
abbrev main_call13_v0 : Ref sig .tc := ⟨.hbm, 407, rfl⟩
abbrev main_call13_v1 : Ref sig .tc := ⟨.hbm, 408, rfl⟩
abbrev main_call13_c_0 : Ref sig .tc := ⟨.hbm, 409, rfl⟩
abbrev main_call13_v2 : Ref sig .tc := ⟨.hbm, 410, rfl⟩
abbrev main_call13_v3 : Ref sig .tc := ⟨.hbm, 411, rfl⟩
abbrev main_call13_v4 : Ref sig .tc := ⟨.hbm, 412, rfl⟩
abbrev main_call13_v5 : Ref sig .tc := ⟨.hbm, 413, rfl⟩
abbrev main_call13_c_1 : Ref sig .tc := ⟨.hbm, 414, rfl⟩
abbrev main_call13_c_2 : Ref sig .tc := ⟨.hbm, 415, rfl⟩
abbrev main_call13_v6 : Ref sig .tc := ⟨.hbm, 416, rfl⟩
abbrev main_call13_v7 : Ref sig .tc := ⟨.hbm, 417, rfl⟩
abbrev main_call13_v8 : Ref sig .tc := ⟨.hbm, 418, rfl⟩
abbrev main_call13_v9 : Ref sig .tc := ⟨.hbm, 419, rfl⟩
abbrev main_call13_v10 : Ref sig .tc := ⟨.hbm, 420, rfl⟩
abbrev main_call13_v11 : Ref sig .tc := ⟨.hbm, 421, rfl⟩
abbrev main_call13_c_3 : Ref sig .tc := ⟨.hbm, 422, rfl⟩
abbrev main_call13_v12 : Ref sig .tc := ⟨.hbm, 423, rfl⟩
abbrev main_call13_v13 : Ref sig .tc := ⟨.hbm, 424, rfl⟩
abbrev main_call13_v14 : Ref sig .tc := ⟨.hbm, 425, rfl⟩
abbrev main_call13_cst : Ref sig .tc := ⟨.hbm, 426, rfl⟩
abbrev main_call13_v15 : Ref sig .tc := ⟨.hbm, 427, rfl⟩
abbrev main_v227 : Ref sig .tc := ⟨.hbm, 428, rfl⟩
abbrev main_call14_v0 : Ref sig .tc := ⟨.hbm, 429, rfl⟩
abbrev main_call14_v1 : Ref sig .tc := ⟨.hbm, 430, rfl⟩
abbrev main_call14_v2 : Ref sig .tc := ⟨.hbm, 431, rfl⟩
abbrev main_call14_v3 : Ref sig .tc := ⟨.hbm, 432, rfl⟩
abbrev main_call14_v4 : Ref sig .tc := ⟨.hbm, 433, rfl⟩
abbrev main_v228 : Ref sig .tc := ⟨.hbm, 434, rfl⟩
abbrev main_cst_57 : Ref sig .tc := ⟨.hbm, 435, rfl⟩
abbrev main_v229 : Ref sig .tc := ⟨.hbm, 436, rfl⟩
abbrev main_cst_58 : Ref sig .tc := ⟨.hbm, 437, rfl⟩
abbrev main_cst_59 : Ref sig .tc := ⟨.hbm, 438, rfl⟩
abbrev main_v230 : Ref sig .tc := ⟨.hbm, 439, rfl⟩
abbrev main_v231 : Ref sig .tc := ⟨.hbm, 440, rfl⟩
abbrev main_v232 : Ref sig .tc := ⟨.hbm, 441, rfl⟩
abbrev main_cst_60 : Ref sig .tc := ⟨.hbm, 442, rfl⟩
abbrev main_v233 : Ref sig .tc := ⟨.hbm, 443, rfl⟩
abbrev main_v234 : Ref sig .tc := ⟨.hbm, 444, rfl⟩
abbrev main_v235 : Ref sig .tc := ⟨.hbm, 445, rfl⟩
abbrev main_v236 : Ref sig .tc := ⟨.hbm, 446, rfl⟩
abbrev main_cst_61 : Ref sig .tc := ⟨.hbm, 447, rfl⟩
abbrev main_v237 : Ref sig .tc := ⟨.hbm, 448, rfl⟩
abbrev main_v238 : Ref sig .tc := ⟨.hbm, 449, rfl⟩
abbrev main_v239 : Ref sig .tc := ⟨.hbm, 450, rfl⟩
abbrev main_v240 : Ref sig .tc := ⟨.hbm, 451, rfl⟩
abbrev main_v241 : Ref sig .tc := ⟨.hbm, 452, rfl⟩
abbrev main_cst_62 : Ref sig .tc := ⟨.hbm, 453, rfl⟩
abbrev main_v242 : Ref sig .tc := ⟨.hbm, 454, rfl⟩
abbrev main_cst_63 : Ref sig .tc := ⟨.hbm, 455, rfl⟩
abbrev main_v243 : Ref sig .tc := ⟨.hbm, 456, rfl⟩
abbrev main_v244 : Ref sig .tc := ⟨.hbm, 457, rfl⟩
abbrev main_v245 : Ref sig .tc := ⟨.hbm, 458, rfl⟩
abbrev main_v246 : Ref sig .tc := ⟨.hbm, 459, rfl⟩
abbrev main_v247 : Ref sig .tc := ⟨.hbm, 460, rfl⟩
abbrev main_v248 : Ref sig .tc := ⟨.hbm, 461, rfl⟩
abbrev main_v249 : Ref sig .tc := ⟨.hbm, 462, rfl⟩
abbrev main_v250 : Ref sig .tc := ⟨.hbm, 463, rfl⟩
abbrev main_v251 : Ref sig .tc := ⟨.hbm, 464, rfl⟩
abbrev main_v252 : Ref sig .tc := ⟨.hbm, 465, rfl⟩
abbrev main_v253 : Ref sig .tc := ⟨.hbm, 466, rfl⟩
abbrev main_v254 : Ref sig .tc := ⟨.hbm, 467, rfl⟩
abbrev main_v255 : Ref sig .tc := ⟨.hbm, 468, rfl⟩
abbrev main_cst_64 : Ref sig .tc := ⟨.hbm, 469, rfl⟩
abbrev main_v256 : Ref sig .tc := ⟨.hbm, 470, rfl⟩
abbrev main_v257 : Ref sig .tc := ⟨.hbm, 471, rfl⟩
abbrev main_v258 : Ref sig .tc := ⟨.hbm, 472, rfl⟩
abbrev main_v259 : Ref sig .tc := ⟨.hbm, 473, rfl⟩
abbrev main_cst_65 : Ref sig .tc := ⟨.hbm, 474, rfl⟩
abbrev main_v260 : Ref sig .tc := ⟨.hbm, 475, rfl⟩
abbrev main_v261 : Ref sig .tc := ⟨.hbm, 476, rfl⟩
abbrev main_v262 : Ref sig .tc := ⟨.hbm, 477, rfl⟩
abbrev main_v263 : Ref sig .tc := ⟨.hbm, 478, rfl⟩
abbrev main_v264 : Ref sig .tc := ⟨.hbm, 479, rfl⟩
abbrev main_cst_66 : Ref sig .tc := ⟨.hbm, 480, rfl⟩
abbrev main_v265 : Ref sig .tc := ⟨.hbm, 481, rfl⟩
abbrev main_v266 : Ref sig .tc := ⟨.hbm, 482, rfl⟩
abbrev main_v267 : Ref sig .tc := ⟨.hbm, 483, rfl⟩
abbrev main_v268 : Ref sig .tc := ⟨.hbm, 484, rfl⟩
abbrev main_v269 : Ref sig .tc := ⟨.hbm, 485, rfl⟩
abbrev main_cst_67 : Ref sig .tc := ⟨.hbm, 486, rfl⟩
abbrev main_v270 : Ref sig .tc := ⟨.hbm, 487, rfl⟩
abbrev main_v271 : Ref sig .tc := ⟨.hbm, 488, rfl⟩
abbrev main_v272 : Ref sig .tc := ⟨.hbm, 489, rfl⟩
abbrev main_v273 : Ref sig .tc := ⟨.hbm, 490, rfl⟩
abbrev main_v274 : Ref sig .tc := ⟨.hbm, 491, rfl⟩
abbrev main_c_68 : Ref sig .tc := ⟨.hbm, 492, rfl⟩
abbrev main_call15_v0 : Ref sig .tc := ⟨.hbm, 493, rfl⟩
abbrev main_call15_v1 : Ref sig .tc := ⟨.hbm, 494, rfl⟩
abbrev main_v275 : Ref sig .tc := ⟨.hbm, 495, rfl⟩
abbrev main_c_69 : Ref sig .tc := ⟨.hbm, 496, rfl⟩
abbrev main_v276 : Ref sig .tc := ⟨.hbm, 497, rfl⟩
abbrev main_call16_c : Ref sig .tc := ⟨.hbm, 498, rfl⟩
abbrev main_call16_v0 : Ref sig .tc := ⟨.hbm, 499, rfl⟩
abbrev main_call16_v1 : Ref sig .tc := ⟨.hbm, 500, rfl⟩
abbrev main_call16_c_0 : Ref sig .tc := ⟨.hbm, 501, rfl⟩
abbrev main_call16_v2 : Ref sig .tc := ⟨.hbm, 502, rfl⟩
abbrev main_call16_v3 : Ref sig .tc := ⟨.hbm, 503, rfl⟩
abbrev main_call16_v4 : Ref sig .tc := ⟨.hbm, 504, rfl⟩
abbrev main_call16_v5 : Ref sig .tc := ⟨.hbm, 505, rfl⟩
abbrev main_call16_c_1 : Ref sig .tc := ⟨.hbm, 506, rfl⟩
abbrev main_call16_c_2 : Ref sig .tc := ⟨.hbm, 507, rfl⟩
abbrev main_call16_v6 : Ref sig .tc := ⟨.hbm, 508, rfl⟩
abbrev main_call16_v7 : Ref sig .tc := ⟨.hbm, 509, rfl⟩
abbrev main_call16_v8 : Ref sig .tc := ⟨.hbm, 510, rfl⟩
abbrev main_call16_v9 : Ref sig .tc := ⟨.hbm, 511, rfl⟩
abbrev main_call16_v10 : Ref sig .tc := ⟨.hbm, 512, rfl⟩
abbrev main_call16_v11 : Ref sig .tc := ⟨.hbm, 513, rfl⟩
abbrev main_call16_c_3 : Ref sig .tc := ⟨.hbm, 514, rfl⟩
abbrev main_call16_v12 : Ref sig .tc := ⟨.hbm, 515, rfl⟩
abbrev main_call16_v13 : Ref sig .tc := ⟨.hbm, 516, rfl⟩
abbrev main_call16_v14 : Ref sig .tc := ⟨.hbm, 517, rfl⟩
abbrev main_call16_cst : Ref sig .tc := ⟨.hbm, 518, rfl⟩
abbrev main_call16_v15 : Ref sig .tc := ⟨.hbm, 519, rfl⟩
abbrev main_v277 : Ref sig .tc := ⟨.hbm, 520, rfl⟩
abbrev main_call17_v0 : Ref sig .tc := ⟨.hbm, 521, rfl⟩
abbrev main_call17_v1 : Ref sig .tc := ⟨.hbm, 522, rfl⟩
abbrev main_call17_v2 : Ref sig .tc := ⟨.hbm, 523, rfl⟩
abbrev main_call17_v3 : Ref sig .tc := ⟨.hbm, 524, rfl⟩
abbrev main_call17_v4 : Ref sig .tc := ⟨.hbm, 525, rfl⟩
abbrev main_v278 : Ref sig .tc := ⟨.hbm, 526, rfl⟩
abbrev main_cst_70 : Ref sig .tc := ⟨.hbm, 527, rfl⟩
abbrev main_v279 : Ref sig .tc := ⟨.hbm, 528, rfl⟩
abbrev main_cst_71 : Ref sig .tc := ⟨.hbm, 529, rfl⟩
abbrev main_cst_72 : Ref sig .tc := ⟨.hbm, 530, rfl⟩
abbrev main_v280 : Ref sig .tc := ⟨.hbm, 531, rfl⟩
abbrev main_v281 : Ref sig .tc := ⟨.hbm, 532, rfl⟩
abbrev main_v282 : Ref sig .tc := ⟨.hbm, 533, rfl⟩
abbrev main_cst_73 : Ref sig .tc := ⟨.hbm, 534, rfl⟩
abbrev main_v283 : Ref sig .tc := ⟨.hbm, 535, rfl⟩
abbrev main_v284 : Ref sig .tc := ⟨.hbm, 536, rfl⟩
abbrev main_v285 : Ref sig .tc := ⟨.hbm, 537, rfl⟩
abbrev main_v286 : Ref sig .tc := ⟨.hbm, 538, rfl⟩
abbrev main_cst_74 : Ref sig .tc := ⟨.hbm, 539, rfl⟩
abbrev main_v287 : Ref sig .tc := ⟨.hbm, 540, rfl⟩
abbrev main_v288 : Ref sig .tc := ⟨.hbm, 541, rfl⟩
abbrev main_v289 : Ref sig .tc := ⟨.hbm, 542, rfl⟩
abbrev main_v290 : Ref sig .tc := ⟨.hbm, 543, rfl⟩
abbrev main_v291 : Ref sig .tc := ⟨.hbm, 544, rfl⟩
abbrev main_cst_75 : Ref sig .tc := ⟨.hbm, 545, rfl⟩
abbrev main_v292 : Ref sig .tc := ⟨.hbm, 546, rfl⟩
abbrev main_cst_76 : Ref sig .tc := ⟨.hbm, 547, rfl⟩
abbrev main_v293 : Ref sig .tc := ⟨.hbm, 548, rfl⟩
abbrev main_v294 : Ref sig .tc := ⟨.hbm, 549, rfl⟩
abbrev main_v295 : Ref sig .tc := ⟨.hbm, 550, rfl⟩
abbrev main_v296 : Ref sig .tc := ⟨.hbm, 551, rfl⟩
abbrev main_v297 : Ref sig .tc := ⟨.hbm, 552, rfl⟩
abbrev main_v298 : Ref sig .tc := ⟨.hbm, 553, rfl⟩
abbrev main_v299 : Ref sig .tc := ⟨.hbm, 554, rfl⟩
abbrev main_v300 : Ref sig .tc := ⟨.hbm, 555, rfl⟩
abbrev main_v301 : Ref sig .tc := ⟨.hbm, 556, rfl⟩
abbrev main_v302 : Ref sig .tc := ⟨.hbm, 557, rfl⟩
abbrev main_v303 : Ref sig .tc := ⟨.hbm, 558, rfl⟩
abbrev main_v304 : Ref sig .tc := ⟨.hbm, 559, rfl⟩
abbrev main_v305 : Ref sig .tc := ⟨.hbm, 560, rfl⟩
abbrev main_v306 : Ref sig .tc := ⟨.hbm, 561, rfl⟩
abbrev main_v307 : Ref sig .tc := ⟨.hbm, 562, rfl⟩
abbrev main_v308 : Ref sig .tc := ⟨.hbm, 563, rfl⟩
abbrev main_v309 : Ref sig .tc := ⟨.hbm, 564, rfl⟩
abbrev main_v310 : Ref sig .tc := ⟨.hbm, 565, rfl⟩
abbrev main_v311 : Ref sig .tc := ⟨.hbm, 566, rfl⟩
abbrev main_v312 : Ref sig .tc := ⟨.hbm, 567, rfl⟩
abbrev main_v313 : Ref sig .tc := ⟨.hbm, 568, rfl⟩
abbrev main_v314 : Ref sig .tc := ⟨.hbm, 569, rfl⟩
abbrev main_cst_77 : Ref sig .tc := ⟨.hbm, 570, rfl⟩
abbrev main_v315 : Ref sig .tc := ⟨.hbm, 571, rfl⟩
abbrev main_cst_78 : Ref sig .tc := ⟨.hbm, 572, rfl⟩
abbrev main_v316 : Ref sig .tc := ⟨.hbm, 573, rfl⟩
abbrev main_v317 : Ref sig .tc := ⟨.hbm, 574, rfl⟩
abbrev main_v318 : Ref sig .tc := ⟨.hbm, 575, rfl⟩
abbrev main_v319 : Ref sig .tc := ⟨.hbm, 576, rfl⟩
abbrev main_v320 : Ref sig .tc := ⟨.hbm, 577, rfl⟩
abbrev main_v321 : Ref sig .tc := ⟨.hbm, 578, rfl⟩
abbrev main_v322 : Ref sig .tc := ⟨.hbm, 579, rfl⟩
abbrev main_v323 : Ref sig .tc := ⟨.hbm, 580, rfl⟩
abbrev main_cst_79 : Ref sig .tc := ⟨.hbm, 581, rfl⟩
abbrev main_v324 : Ref sig .tc := ⟨.hbm, 582, rfl⟩
abbrev main_cst_80 : Ref sig .tc := ⟨.hbm, 583, rfl⟩
abbrev main_v325 : Ref sig .tc := ⟨.hbm, 584, rfl⟩

abbrev nD : Nat := 1
abbrev τ : Topo := Topo.v7x

variable {F : FTy → Type} [FloatOps F]
-- ==== Proof.Pick.lean ====
/-
  The mathematics of residual vector quantisation for ONE position, over the real numbers: the score of a code, the first
  code of greatest score, the residual that a layer leaves. Both programs are read as this recursion.
-/
module

public import Idealize.ShloMosaic.Lib.Pointwise
public import Idealize.ShloMosaic.Lib.StableHlo.Predicate

@[expose] public section

set_option maxRecDepth 16384

noncomputable section

open Idealize.ShloMosaic Idealize.SL.Sem

namespace Cert.Rvq

/-- The position of batch row `b` at time `s`. -/
def pos (b : Fin 16) (s : Fin 512) : Fin 8192 := ⟨b.val * 512 + s.val, by omega⟩

/-- The least index at which `f` is greatest. -/
def first {n : ℕ} [NeZero n] (f : Fin n → ℝ) : Fin n :=
  (Finset.univ.filter fun k => ∀ l, f l ≤ f k).min' (by
    obtain ⟨k, -, hk⟩ := Finset.exists_max_image Finset.univ f ⟨0, Finset.mem_univ _⟩
    exact ⟨k, Finset.mem_filter.mpr ⟨Finset.mem_univ _, fun l => hk l (Finset.mem_univ _)⟩⟩)

/-- `f` is greatest at `first f`. -/
theorem le_first {n : ℕ} [NeZero n] (f : Fin n → ℝ) (l : Fin n) : f l ≤ f (first f) :=
  (Finset.mem_filter.mp (Finset.min'_mem (Finset.univ.filter fun k => ∀ l, f l ≤ f k) _)).2 l

/-- No index at which `f` is greatest lies before `first f`. -/
theorem first_le {n : ℕ} [NeZero n] (f : Fin n → ℝ) (k : Fin n) (h : ∀ l, f l ≤ f k) : first f ≤ k :=
  Finset.min'_le _ _ (Finset.mem_filter.mpr ⟨Finset.mem_univ _, h⟩)

/-- Two functions that order the indices alike are first greatest at the same index. -/
theorem first_congr {n : ℕ} [NeZero n] (f g : Fin n → ℝ) (h : ∀ k l, f k ≤ f l ↔ g k ≤ g l) : first f = first g :=
  le_antisymm (first_le f _ fun l => (h _ _).mpr (le_first g l)) (first_le g _ fun l => (h _ _).mp (le_first f l))

/-- The score of code `k` of the codebook `K` at the residual `r`. -/
def score (K : Fin 1024 → Fin 256 → ℝ) (r : Fin 256 → ℝ) (k : Fin 1024) : ℝ :=
  ∑ c, K k c * r c - 1 / 2 * ∑ c, K k c * K k c

/-- The negated squared distance of `r` to code `k`. -/
def nearness (K : Fin 1024 → Fin 256 → ℝ) (r : Fin 256 → ℝ) (k : Fin 1024) : ℝ :=
  -(∑ c, r c * r c - 2 * ∑ c, r c * K k c + ∑ c, K k c * K k c)

/-- The code chosen at the residual `r`: the first of greatest score. -/
def code (K : Fin 1024 → Fin 256 → ℝ) (r : Fin 256 → ℝ) : Fin 1024 := first (score K r)

/-- The first nearest code is the first of greatest score: the squared norm of `r` is the same for every code. -/
theorem first_nearness (K : Fin 1024 → Fin 256 → ℝ) (r : Fin 256 → ℝ) : first (nearness K r) = code K r := by
  refine first_congr _ _ fun k l => ?_
  unfold nearness score
  simp only [mul_comm (r _) (K _ _)]
  constructor <;> intro h <;> linarith

/-- The residual that layer `i` meets: the entering one less the codes chosen before it. -/
def resid (C : Fin 6 → Fin 1024 → Fin 256 → ℝ) (r : Fin 256 → ℝ) : ℕ → Fin 256 → ℝ
  | 0 => r
  | i + 1 => fun c => resid C r i c - C (Fin.ofNat 6 i) (code (C (Fin.ofNat 6 i)) (resid C r i)) c

/-- The code that layer `i` chooses. -/
def pick (C : Fin 6 → Fin 1024 → Fin 256 → ℝ) (r : Fin 256 → ℝ) (i : Fin 6) : Fin 1024 := code (C i) (resid C r i.val)

/-- The code vector that layer `i` takes. -/
def taken (C : Fin 6 → Fin 1024 → Fin 256 → ℝ) (r : Fin 256 → ℝ) (i : Fin 6) (c : Fin 256) : ℝ := C i (pick C r i) c

/-- The sum of the code vectors that the layers before `i` take. -/
def total (C : Fin 6 → Fin 1024 → Fin 256 → ℝ) (r : Fin 256 → ℝ) : ℕ → Fin 256 → ℝ
  | 0 => fun _ => 0
  | i + 1 => fun c => total C r i c + C (Fin.ofNat 6 i) (code (C (Fin.ofNat 6 i)) (resid C r i)) c

/-- The squared distance between the residual that layer `i` meets and the code vector it takes. -/
def gap (C : Fin 6 → Fin 1024 → Fin 256 → ℝ) (r : Fin 256 → ℝ) (i : ℕ) : ℝ :=
  ∑ c, (resid C r i c - C (Fin.ofNat 6 i) (code (C (Fin.ofNat 6 i)) (resid C r i)) c) * (resid C r i c - C (Fin.ofNat 6 i) (code (C (Fin.ofNat 6 i)) (resid C r i)) c)

/-- The residual after layer `i`. -/
theorem resid_succ (C : Fin 6 → Fin 1024 → Fin 256 → ℝ) (r : Fin 256 → ℝ) (i : Fin 6) (c : Fin 256) :
    resid C r (i.val + 1) c = resid C r i.val c - taken C r i c := by
  simp only [resid, taken, pick, Fin.ofNat_val_eq_self]

/-- A real sum read over the extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A finite extended real is a real number. -/
theorem coe_toReal_of_abs_lt (x : EReal) (h : max x (-x) < ⊤) : ((x.toReal : ℝ) : EReal) = x := by
  refine EReal.coe_toReal (fun e => ?_) (fun e => ?_)
  · subst e; simp at h
  · subst e; simp at h

/-- The array unit's index of the greatest entry of a column whose entries are real numbers. -/
theorem reduceIndex_first (x : FVec Ideal ⟨2, ![1024, 1024]⟩ .f32) (h : (⟨2, ![1024, 1024]⟩ : Shape).Reduces [0] ⟨1, ![1024]⟩)
    (f : Fin 1024 → ℝ) (p : Fin 1024) (hx : ∀ k : Fin 1024, x (ix2 k p) = (f k : EReal)) :
    reduceIndex (F := Ideal) .argMax 0 ⟨1, ![1024]⟩ x h (ix1 p) = BitVec.ofNat 32 (first f).val := by
  classical
  have hdrop : ∀ i : (⟨2, ![1024, 1024]⟩ : Shape).Idx, h.drop i = ix1 p ↔ i 1 = p := by
    intro i
    have hv : (h.drop i 0 : ℕ) = i 1 := Shape.Reduces.drop_apply_val_of_eq h i 0 1
    constructor
    · intro e
      rw [e] at hv
      exact Fin.ext hv.symm
    · intro e
      funext b
      have hb : b = 0 := Subsingleton.elim _ _
      subst hb
      exact Fin.ext (hv.trans (congrArg Fin.val e))
  show Ideal.reduceIndex .argMax 0 h x (ix1 p) = _
  unfold Ideal.reduceIndex
  simp only [hdrop, if_true]
  have key : ∀ S : Finset ℕ, (first f).val ∈ S → (∀ b ∈ S, (first f).val ≤ b) → S.min.getD 0 = (first f).val := by
    intro S hm hl
    have : S.min = ((first f).val : WithTop ℕ) := le_antisymm (Finset.min_le hm) (Finset.le_min fun b hb => WithTop.coe_le_coe.mpr (hl b hb))
    rw [this]; rfl
  have hx' : ∀ i : (⟨2, ![1024, 1024]⟩ : Shape).Idx, i 1 = p → x i = (f (i 0) : EReal) := by
    intro i hi
    have e : i = ix2 (i 0) p := by rw [← hi]; exact eq_ix2 i
    exact (congrArg x e).trans (hx (i 0))
  refine congrArg (BitVec.ofNat 32) (key _ ?_ ?_)
  · refine Finset.mem_image.mpr ⟨ix2 (first f) p, ?_, rfl⟩
    simp only [Finset.mem_filter, Finset.mem_univ, true_and]
    refine ⟨rfl, fun i hi => ?_⟩
    rw [hx' i hi, hx, not_lt]
    exact_mod_cast le_first f (i 0)
  · intro b hb
    obtain ⟨i, hi, rfl⟩ := Finset.mem_image.mp hb
    simp only [Finset.mem_filter, Finset.mem_univ, true_and] at hi
    refine first_le f (i 0) fun l => ?_
    have := hi.2 (ix2 l p) rfl
    rw [hx' i hi.1, hx, not_lt] at this
    exact_mod_cast this

/-- The greatest of finitely many real numbers, folded over the extended reals from the least one. -/
theorem fold_max_first (f : Fin 1024 → ℝ) : Finset.univ.fold max (⊥ : EReal) (fun k => (f k : EReal)) = (f (first f) : EReal) := by
  refine le_antisymm ?_ ?_
  · rw [Finset.fold_max_le]
    exact ⟨bot_le, fun k _ => by exact_mod_cast le_first f k⟩
  · rw [Finset.le_fold_max]
    exact Or.inr ⟨first f, Finset.mem_univ _, le_rfl⟩

/-- What a fold by the signed minimum is: the initial word or one of the entries, and at most each entry. -/
theorem fold_minsi {ι : Type} [DecidableEq ι] (S : Finset ι) (b : BitVec 32) (g : ι → BitVec 32) :
    (S.fold IntOp.minsi b g = b ∨ ∃ k ∈ S, S.fold IntOp.minsi b g = g k) ∧ ∀ k ∈ S, (S.fold IntOp.minsi b g).toInt ≤ (g k).toInt := by
  have hm : ∀ x y : BitVec 32, (IntOp.minsi x y = x ∧ x.toInt ≤ y.toInt) ∨ (IntOp.minsi x y = y ∧ y.toInt ≤ x.toInt) := by
    intro x y
    unfold IntOp.minsi
    simp only [BitVec.slt, decide_eq_true_eq]
    split
    · exact Or.inl ⟨rfl, by omega⟩
    · exact Or.inr ⟨rfl, by omega⟩
  induction S using Finset.induction_on with
  | empty => simp
  | insert a S ha ih =>
    rw [Finset.fold_insert ha]
    rcases hm (g a) (S.fold IntOp.minsi b g) with ⟨e, hle⟩ | ⟨e, hle⟩
    · rw [e]
      refine ⟨Or.inr ⟨a, Finset.mem_insert_self _ _, rfl⟩, fun k hk => ?_⟩
      rcases Finset.mem_insert.mp hk with rfl | hk
      · exact le_rfl
      · exact hle.trans (ih.2 k hk)
    · rw [e]
      refine ⟨?_, fun k hk => ?_⟩
      · rcases ih.1 with h | ⟨k, hk, h⟩
        · exact Or.inl h
        · exact Or.inr ⟨k, Finset.mem_insert_of_mem hk, h⟩
      · rcases Finset.mem_insert.mp hk with rfl | hk
        · exact hle
        · exact ih.2 k hk

/-- The least lane at which the entry is the greatest one: the lane where `f` is first greatest. -/
theorem fold_lane_first (f : Fin 1024 → ℝ) (g : Fin 1024 → BitVec 32)
    (hg : ∀ k, g k = if (f k : EReal) = (f (first f) : EReal) then BitVec.ofNat 32 k.val else 1024#32) :
    Finset.univ.fold IntOp.minsi 2147483647#32 g = BitVec.ofNat 32 (first f).val := by
  have hF := (first f).isLt
  have hint : ∀ k : Fin 1024, (BitVec.ofNat 32 k.val).toInt = k.val := fun k =>
    StableHlo.Predicate.toInt_ofNat_small _ (by have := k.isLt; omega)
  obtain ⟨h1, h2⟩ := fold_minsi Finset.univ 2147483647#32 g
  have hle := h2 (first f) (Finset.mem_univ _)
  rw [hg, if_pos rfl, hint] at hle
  rcases h1 with h | ⟨k, -, h⟩
  · rw [h, show (2147483647#32 : BitVec 32).toInt = 2147483647 from by decide] at hle
    omega
  · rw [h] at hle ⊢
    rw [hg] at hle ⊢
    by_cases hk : (f k : EReal) = (f (first f) : EReal)
    · rw [if_pos hk, hint] at hle
      rw [if_pos hk]
      have hk' : f k = f (first f) := by exact_mod_cast hk
      have := first_le f k fun l => by rw [hk']; exact le_first f l
      have : (first f).val ≤ k.val := this
      rw [show k.val = (first f).val by omega]
    · rw [if_neg hk, show (1024#32 : BitVec 32).toInt = 1024 from by decide] at hle
      omega

end Cert.Rvq

end
-- ==== Proof.KernelLayer.lean ====
/-
  One layer of the kernel's body, named operation by operation, and what each operation is once its operands read as real
  numbers: the scores, the chosen indices, the one-hot columns, the code vectors, the residual that goes on.
-/
module

public import proofs.«01_k».proof.Proof.Gen.KernelIdeal.Skeleton
public import proofs.«01_k».proof.Proof.Pick

@[expose] public section

set_option maxRecDepth 16384

noncomputable section

open Idealize.ShloMosaic Idealize.ShloMosaic.TcCoe Idealize.SL.Sem

namespace Cert.KernelIdeal.Layer

open Cert.KernelIdeal Cert.KernelIdeal.Gen

/-- The scores of every code (rows) at every position (columns). -/
def kScore (b : Vec Ideal S1x1024x256 .bf16) (n : Vec Ideal S1x1024x1 .f32) (r : FVec Ideal S256x1024 .f32) : FVec Ideal S1024x1024 .f32 :=
  subf (matmul dot_S1024x256_S256x1024_S1024x1024_1_0_0_1_n_n none (shapeCast S1024x256 b shapeCasts_S1x1024x256_S1024x256 : FVec Ideal S1024x256 .bf16)
      (truncf .bf16 r bitsLt_bf16_f32) (constant S1024x1024 .f32 0x00000000#32))
    (broadcastTo S1024x1024 (shapeCast S1024x1 n shapeCasts_S1x1024x1_S1024x1) broadcasts_S1024x1_S1024x1024)

/-- The index of the greatest score of each position. -/
def kIdx (s : FVec Ideal S1024x1024 .f32) : IVec S1x1024 32 :=
  shapeCast S1x1024 (reduceIndex .argMax 0 S1024 s reduces_S1024x1024_S1024) shapeCasts_S1024_S1x1024

/-- The one-hot columns of the indices. -/
def kHot (ix : IVec S1x1024 32) : FVec Ideal S1024x1024 .bf16 :=
  truncf .bf16 (sitofp (F := Ideal) .f32 (extui 32 (cmpi .eq (iota .tc S1024x1024 32 [0] iota_S1024x1024_d0_w32)
    (broadcastTo S1024x1024 ix broadcasts_S1x1024_S1024x1024)) natLt_1_32)) bitsLt_bf16_f32

/-- One part of the codebook times the one-hot columns. -/
def kMul (b : Vec Ideal S1x1024x256 .bf16) (hot : FVec Ideal S1024x1024 .bf16) : FVec Ideal S256x1024 .f32 :=
  matmul dot_S1024x256_S1024x1024_S256x1024_0_0_1_1_n_n none (shapeCast S1024x256 b shapeCasts_S1x1024x256_S1024x256 : FVec Ideal S1024x256 .bf16) hot
    (constant S256x1024 .f32 0x00000000#32)

/-- The first two parts. -/
def kTwo (h l : Vec Ideal S1x1024x256 .bf16) (hot : FVec Ideal S1024x1024 .bf16) : FVec Ideal S256x1024 .f32 :=
  addf (kMul h hot) (kMul l hot)

/-- A further part added. -/
def kAdd (two : FVec Ideal S256x1024 .f32) (l : Vec Ideal S1x1024x256 .bf16) (hot : FVec Ideal S1024x1024 .bf16) : FVec Ideal S256x1024 .f32 :=
  addf two (kMul l hot)

/-- The straight-through value: the residual plus the difference of the code vector and the residual. -/
def kSt (r x : FVec Ideal S256x1024 .f32) : FVec Ideal S256x1024 .f32 := addf r (subf x r)

/-- The residual less the straight-through value. -/
def kNext (r x : FVec Ideal S256x1024 .f32) : FVec Ideal S256x1024 .f32 := subf r (kSt r x)

/-- The counts with the one-hot columns' row sums added. -/
def kCount (n : Vec Ideal S1x1024x1 .f32) (hot : FVec Ideal S1024x1024 .bf16) : FVec Ideal S1x1024x1 .f32 :=
  shapeCast S1x1024x1 (addf (shapeCast S1024x1 n shapeCasts_S1x1024x1_S1024x1)
    (shapeCast S1024x1 (multiReduction .add [1] S1024 (extf .f32 hot bitsLt_bf16_f32) 0x00000000#32 reduces_S1024x1024_S1024_2 (.inl rfl) rfl)
      shapeCasts_S1024_S1024x1)) shapeCasts_S1024x1_S1x1024x1

/-- The loss accumulator with the squares of the differences added. -/
def kLoss (a : Vec Ideal S1x1 .f32) (r x : FVec Ideal S256x1024 .f32) : FVec Ideal S1x1 .f32 :=
  addf a (broadcast S1x1 (extractAt ![0, 0, 0] (shapeCast S1x1x1 (multiReduction .add [1, 2] S1
    (shapeCast S1x256x1024 (mulf (subf r x) (subf r x)) shapeCasts_S256x1024_S1x256x1024) 0x00000000#32 reduces_S1x256x1024_S1 (.inl rfl) rfl)
    shapeCasts_S1_S1x1x1) inpos_S1x1x1_p0_0_0))

/-! ### What each operation is on real numbers -/

variable {K : Fin 1024 → Fin 256 → ℝ} {ρ : Fin 1024 → Fin 256 → ℝ}

/-- The scores, at operands that read as the codebook, half its squared norms and the residuals. -/
theorem kScore_at {b : Vec Ideal S1x1024x256 .bf16} {n : Vec Ideal S1x1024x1 .f32} {r : FVec Ideal S256x1024 .f32}
    (hb : ∀ (k : Fin 1024) (c : Fin 256), (b : FVec Ideal S1x1024x256 .bf16) (ix3 0 k c) = (K k c : EReal))
    (hn : ∀ k : Fin 1024, (n : FVec Ideal S1x1024x1 .f32) (ix3 0 k 0) = ((1 / 2 * ∑ c, K k c * K k c : ℝ) : EReal))
    (hr : ∀ (p : Fin 1024) (c : Fin 256), r (ix2 c p) = (ρ p c : EReal)) (k p : Fin 1024) :
    kScore b n r (ix2 k p) = (Rvq.score K (ρ p) k : EReal) := by
  unfold Rvq.score
  rw [EReal.coe_sub, Rvq.coe_sum]
  pointwise [kScore]
  rw [hn]
  refine congrArg (· - _) (Finset.sum_congr rfl fun c _ => ?_)
  rw [hb, hr, EReal.coe_mul]

/-- The chosen indices. -/
theorem kIdx_at {s : FVec Ideal S1024x1024 .f32} (hs : ∀ k p : Fin 1024, s (ix2 k p) = (Rvq.score K (ρ p) k : EReal)) (p : Fin 1024) :
    kIdx s (ix2 0 p) = BitVec.ofNat 32 (Rvq.code K (ρ p)).val := by
  pointwise [kIdx]
  exact Rvq.reduceIndex_first s _ _ p fun k => hs k p

/-- The one-hot columns: one at the chosen code, zero elsewhere. -/
theorem kHot_at {ix : IVec S1x1024 32} (q : Fin 1024 → Fin 1024) (hx : ∀ p : Fin 1024, ix (ix2 0 p) = BitVec.ofNat 32 (q p).val) (k p : Fin 1024) :
    kHot ix (ix2 k p) = ((if k = q p then 1 else 0 : ℝ) : EReal) := by
  have e : (BitVec.ofNat 32 k.val = BitVec.ofNat 32 (q p).val) ↔ k = q p := by
    constructor
    · intro h
      have := congrArg BitVec.toNat h
      have hk := k.isLt
      have hq := (q p).isLt
      simp only [BitVec.toNat_ofNat] at this
      exact Fin.ext (by omega)
    · intro h; rw [h]
  pointwise [kHot]
  rw [hx]
  refine Eq.trans (b := (((BitVec.setWidth 32 (IntOp.cmpi .eq (BitVec.ofNat 32 k.val) (BitVec.ofNat 32 (q p).val))).toInt : ℝ) : EReal)) rfl ?_
  by_cases h : k = q p
  · rw [if_pos h, h, StableHlo.Predicate.cmpi_eq_iff.mpr rfl]; norm_num
  · rw [if_neg h]
    have : IntOp.cmpi .eq (BitVec.ofNat 32 k.val) (BitVec.ofNat 32 (q p).val) = 0#1 := by
      have h' : ¬BitVec.ofNat 32 k.val = BitVec.ofNat 32 (q p).val := fun w => h (e.mp w)
      simp only [IntOp.cmpi, beq_eq_false_iff_ne.mpr h']; rfl
    rw [this]; norm_num

/-- A part of the codebook at the one-hot columns: the chosen code's row. -/
theorem kMul_at {b : Vec Ideal S1x1024x256 .bf16} {hot : FVec Ideal S1024x1024 .bf16} (q : Fin 1024 → Fin 1024)
    (hb : ∀ (k : Fin 1024) (c : Fin 256), (b : FVec Ideal S1x1024x256 .bf16) (ix3 0 k c) = (K k c : EReal))
    (hh : ∀ k p : Fin 1024, hot (ix2 k p) = ((if k = q p then 1 else 0 : ℝ) : EReal)) (p : Fin 1024) (c : Fin 256) :
    kMul b hot (ix2 c p) = (K (q p) c : EReal) := by
  pointwise [kMul]
  rw [Finset.sum_eq_single (q p)]
  · rw [hb, hh, if_pos rfl, EReal.coe_one, mul_one]
  · intro k _ hk
    rw [hb, hh, if_neg hk, EReal.coe_zero, mul_zero]
  · intro h; exact absurd (Finset.mem_univ _) h

/-- The straight-through value is the code vector. -/
theorem kSt_at {r x : FVec Ideal S256x1024 .f32} {ξ : Fin 1024 → Fin 256 → ℝ}
    (hr : ∀ (p : Fin 1024) (c : Fin 256), r (ix2 c p) = (ρ p c : EReal))
    (hx : ∀ (p : Fin 1024) (c : Fin 256), x (ix2 c p) = (ξ p c : EReal)) (p : Fin 1024) (c : Fin 256) :
    kSt r x (ix2 c p) = (ξ p c : EReal) := by
  pointwise [kSt]
  rw [hr, hx, ← EReal.coe_sub, ← EReal.coe_add]
  exact congrArg _ (by ring)

/-- The residual that goes on. -/
theorem kNext_at {r x : FVec Ideal S256x1024 .f32} {ξ : Fin 1024 → Fin 256 → ℝ}
    (hr : ∀ (p : Fin 1024) (c : Fin 256), r (ix2 c p) = (ρ p c : EReal))
    (hx : ∀ (p : Fin 1024) (c : Fin 256), x (ix2 c p) = (ξ p c : EReal)) (p : Fin 1024) (c : Fin 256) :
    kNext r x (ix2 c p) = ((ρ p c - ξ p c : ℝ) : EReal) := by
  pointwise [kNext]
  rw [hr, kSt_at hr hx, ← EReal.coe_sub]

/-- The counts. -/
theorem kCount_at {n : Vec Ideal S1x1024x1 .f32} {hot : FVec Ideal S1024x1024 .bf16} (q : Fin 1024 → Fin 1024) (ν : Fin 1024 → ℝ)
    (hn : ∀ k : Fin 1024, (n : FVec Ideal S1x1024x1 .f32) (ix3 0 k 0) = (ν k : EReal))
    (hh : ∀ k p : Fin 1024, hot (ix2 k p) = ((if k = q p then 1 else 0 : ℝ) : EReal)) (k : Fin 1024) :
    kCount n hot (ix3 0 k 0) = ((ν k + ∑ p, if k = q p then 1 else 0 : ℝ) : EReal) := by
  pointwise [kCount]
  rw [hn, EReal.coe_add, Rvq.coe_sum]
  refine congrArg (_ + ·) (Finset.sum_congr rfl fun p _ => ?_)
  exact hh k p

/-- The loss accumulator. -/
theorem kLoss_at {a : Vec Ideal S1x1 .f32} {r x : FVec Ideal S256x1024 .f32} {ξ : Fin 1024 → Fin 256 → ℝ} (α : ℝ)
    (ha : (a : FVec Ideal S1x1 .f32) (ix2 0 0) = (α : EReal))
    (hr : ∀ (p : Fin 1024) (c : Fin 256), r (ix2 c p) = (ρ p c : EReal))
    (hx : ∀ (p : Fin 1024) (c : Fin 256), x (ix2 c p) = (ξ p c : EReal)) :
    kLoss a r x (ix2 0 0) = ((α + ∑ c, ∑ p, (ρ p c - ξ p c) * (ρ p c - ξ p c) : ℝ) : EReal) := by
  pointwise [kLoss]
  rw [ha, EReal.coe_add, Rvq.coe_sum]
  refine congrArg (_ + ·) (Finset.sum_congr rfl fun c _ => ?_)
  rw [Rvq.coe_sum]
  refine Finset.sum_congr rfl fun p _ => ?_
  rw [hr, hx, ← EReal.coe_sub, ← EReal.coe_mul]

/-! ### The six layers -/

section Layers

variable (B H M L : Fin 6 → Vec Ideal S1x1024x256 .bf16) (N : Fin 6 → Vec Ideal S1x1024x1 .f32) (x : FVec Ideal S256x1024 .f32)

/-- The one-hot columns of the layer with the operands of index `i` at the residual `r`. -/
def kHotOf (i : Fin 6) (r : FVec Ideal S256x1024 .f32) : FVec Ideal S1024x1024 .bf16 := kHot (kIdx (kScore (B i) (N i) r))

/-- The code vectors of that layer. -/
def kRowOf (i : Fin 6) (r : FVec Ideal S256x1024 .f32) : FVec Ideal S256x1024 .f32 :=
  kAdd (kTwo (H i) (M i) (kHotOf B N i r)) (L i) (kHotOf B N i r)

/-- The residual that layer `i` meets. -/
def kR : ℕ → FVec Ideal S256x1024 .f32
  | 0 => x
  | i + 1 => kNext (kR i) (kRowOf B H M L N (Fin.ofNat 6 i) (kR i))

/-- The sum of the straight-through values of the layers before `i`. -/
def kQ : ℕ → FVec Ideal S256x1024 .f32
  | 0 => k0_pay9
  | i + 1 => addf (kQ i) (kSt (kR B H M L N x i) (kRowOf B H M L N (Fin.ofNat 6 i) (kR B H M L N x i)))

/-- The loss accumulator before layer `i`, from `a`. -/
def kA (a : Vec Ideal S1x1 .f32) : ℕ → Vec Ideal S1x1 .f32
  | 0 => a
  | i + 1 => kLoss (kA a i) (kR B H M L N x i) (kRowOf B H M L N (Fin.ofNat 6 i) (kR B H M L N x i))

variable {B H M L N x} (C : Fin 6 → Fin 1024 → Fin 256 → ℝ)

/-- The operands of the layers read as the codebooks: the two bf16 codebooks as the codebook itself, the two remainders as
    zero, the norms as half the squared norms. -/
structure Operands (B H M L : Fin 6 → Vec Ideal S1x1024x256 .bf16) (N : Fin 6 → Vec Ideal S1x1024x1 .f32) : Prop where
  b : ∀ (i : Fin 6) (k : Fin 1024) (c : Fin 256), (B i : FVec Ideal S1x1024x256 .bf16) (ix3 0 k c) = (C i k c : EReal)
  h : ∀ (i : Fin 6) (k : Fin 1024) (c : Fin 256), (H i : FVec Ideal S1x1024x256 .bf16) (ix3 0 k c) = (C i k c : EReal)
  m : ∀ (i : Fin 6) (k : Fin 1024) (c : Fin 256), (M i : FVec Ideal S1x1024x256 .bf16) (ix3 0 k c) = ((0 : ℝ) : EReal)
  l : ∀ (i : Fin 6) (k : Fin 1024) (c : Fin 256), (L i : FVec Ideal S1x1024x256 .bf16) (ix3 0 k c) = ((0 : ℝ) : EReal)
  n : ∀ (i : Fin 6) (k : Fin 1024), (N i : FVec Ideal S1x1024x1 .f32) (ix3 0 k 0) = ((1 / 2 * ∑ c, C i k c * C i k c : ℝ) : EReal)

variable {C}

/-- The one-hot columns of a layer whose residual reads as `ρ`. -/
theorem kHotOf_at (o : Operands C B H M L N) (i : Fin 6) {r : FVec Ideal S256x1024 .f32}
    (hr : ∀ (p : Fin 1024) (c : Fin 256), r (ix2 c p) = (ρ p c : EReal)) (k p : Fin 1024) :
    kHotOf B N i r (ix2 k p) = ((if k = Rvq.code (C i) (ρ p) then 1 else 0 : ℝ) : EReal) :=
  kHot_at (fun p => Rvq.code (C i) (ρ p)) (kIdx_at (kScore_at (o.b i) (o.n i) hr)) k p

/-- The code vectors of a layer whose residual reads as `ρ`. -/
theorem kRowOf_at (o : Operands C B H M L N) (i : Fin 6) {r : FVec Ideal S256x1024 .f32}
    (hr : ∀ (p : Fin 1024) (c : Fin 256), r (ix2 c p) = (ρ p c : EReal)) (p : Fin 1024) (c : Fin 256) :
    kRowOf B H M L N i r (ix2 c p) = (C i (Rvq.code (C i) (ρ p)) c : EReal) := by
  have hh := kHotOf_at o i hr
  pointwise [kRowOf, kAdd, kTwo]
  rw [kMul_at (K := C i) _ (o.h i) hh, kMul_at (K := fun _ _ => 0) _ (o.m i) hh, kMul_at (K := fun _ _ => 0) _ (o.l i) hh,
    EReal.coe_zero, add_zero, add_zero]

/-- The residuals. -/
theorem kR_at (o : Operands C B H M L N) (hx : ∀ (p : Fin 1024) (c : Fin 256), x (ix2 c p) = (ρ p c : EReal)) (i : ℕ) :
    ∀ (p : Fin 1024) (c : Fin 256), kR B H M L N x i (ix2 c p) = (Rvq.resid C (ρ p) i c : EReal) := by
  induction i with
  | zero => exact hx
  | succ i ih =>
    intro p c
    exact kNext_at ih (kRowOf_at o (Fin.ofNat 6 i) ih) p c

/-- The chosen indices. -/
theorem kIx_at (o : Operands C B H M L N) (hx : ∀ (p : Fin 1024) (c : Fin 256), x (ix2 c p) = (ρ p c : EReal)) (i : Fin 6) (p : Fin 1024) :
    kIdx (kScore (B i) (N i) (kR B H M L N x i.val)) (ix2 0 p) = BitVec.ofNat 32 (Rvq.pick C (ρ p) i).val :=
  kIdx_at (kScore_at (o.b i) (o.n i) (kR_at o hx i.val)) p

/-- The sums of the code vectors taken. -/
theorem kQ_at (o : Operands C B H M L N) (hx : ∀ (p : Fin 1024) (c : Fin 256), x (ix2 c p) = (ρ p c : EReal)) (i : ℕ) :
    ∀ (p : Fin 1024) (c : Fin 256), kQ B H M L N x i (ix2 c p) = (Rvq.total C (ρ p) i c : EReal) := by
  induction i with
  | zero =>
    intro p c
    pointwise [kQ, k0_pay9]
    rfl
  | succ i ih =>
    intro p c
    pointwise [kQ]
    rw [ih, kSt_at (kR_at o hx i) (kRowOf_at o (Fin.ofNat 6 i) (kR_at o hx i)), ← EReal.coe_add]
    rfl

/-- The loss accumulator. -/
theorem kA_at (o : Operands C B H M L N) (hx : ∀ (p : Fin 1024) (c : Fin 256), x (ix2 c p) = (ρ p c : EReal))
    {a : Vec Ideal S1x1 .f32} {α : ℝ} (ha : (a : FVec Ideal S1x1 .f32) (ix2 0 0) = (α : EReal)) (i : ℕ) :
    (kA B H M L N x a i : FVec Ideal S1x1 .f32) (ix2 0 0) = ((α + ∑ l ∈ Finset.range i, ∑ p, Rvq.gap C (ρ p) l : ℝ) : EReal) := by
  induction i with
  | zero => simpa [kA] using ha
  | succ i ih =>
    refine (kLoss_at _ ih (kR_at o hx i) (kRowOf_at o (Fin.ofNat 6 i) (kR_at o hx i))).trans (congrArg _ ?_)
    rw [Finset.sum_range_succ, ← add_assoc]
    refine congrArg (fun z : ℝ => α + ∑ l ∈ Finset.range i, ∑ p, Rvq.gap C (ρ p) l + z) Finset.sum_comm

/-- A layer's counts. -/
theorem kCountOf_at (o : Operands C B H M L N) (hx : ∀ (p : Fin 1024) (c : Fin 256), x (ix2 c p) = (ρ p c : EReal)) (i : Fin 6)
    {n : Vec Ideal S1x1024x1 .f32} (ν : Fin 1024 → ℝ) (hn : ∀ k : Fin 1024, (n : FVec Ideal S1x1024x1 .f32) (ix3 0 k 0) = (ν k : EReal)) (k : Fin 1024) :
    kCount n (kHotOf B N i (kR B H M L N x i.val)) (ix3 0 k 0) = ((ν k + ∑ p, if k = Rvq.pick C (ρ p) i then 1 else 0 : ℝ) : EReal) :=
  kCount_at _ ν hn (kHotOf_at o i (kR_at o hx i.val)) k

end Layers

end Cert.KernelIdeal.Layer

end
-- ==== Proof.KernelPay.lean ====
/-
  The payloads of the kernel's body are the layer operations of `KernelLayer`.
-/
module

public import proofs.«01_k».proof.Proof.KernelLayer

@[expose] public section

set_option maxRecDepth 16384

noncomputable section

open Idealize.ShloMosaic Idealize.ShloMosaic.TcCoe Idealize.SL.Sem

namespace Cert.KernelIdeal.Layer

open Cert.KernelIdeal Cert.KernelIdeal.Gen

/-- The row numbers that the body compares the indices with. -/
def rows : IVec S1024x1024 32 := iota .tc S1024x1024 32 [0] iota_S1024x1024_d0_w32

variable (u v : Vec Ideal S1x256x512 .f32) (b h l k : Vec Ideal S1x1024x256 .bf16) (n : Vec Ideal S1x1024x1 .f32) (a : Vec Ideal S1x1 .f32)
  (r x q : FVec Ideal S256x1024 .f32) (hot : FVec Ideal S1024x1024 .bf16) (s : FVec Ideal S1024x1024 .f32)

/-- A cast of a scalar's shape to itself. -/
theorem cast11 (y : FVec Ideal S1x1 .f32) : shapeCast S1x1 y shapeCasts_S1x1_S1x1 = y := shapeCast_self ..

/-! ### The payloads of the first layer -/

/-- The indices of the layer. -/
theorem pay10_eq : k0_pay10 u v b n = kIdx (kScore b n (k0_pay8 u v)) := rfl
/-- The one-hot columns of the layer. -/
theorem pay11_eq : k0_pay11 u v b n = kHot (kIdx (kScore b n (k0_pay8 u v))) := rfl
/-- The first two parts of the code vectors. -/
theorem pay12_eq : k0_pay12 u v b n h l = kTwo h l (kHot (kIdx (kScore b n (k0_pay8 u v)))) := rfl
/-- The code vectors of the layer. -/
theorem pay13_eq : k0_pay13 hot x k = kAdd x k hot := rfl
/-- The counts after the layer. -/
theorem pay14_eq : k0_pay14 hot n = kCount n hot := rfl
/-- The squared distances after the layer. -/
theorem pay15_eq : k0_pay15 r hot x k a = kLoss a r (kAdd x k hot) := cast11 _
/-- The straight-through value of the layer. -/
theorem pay16_eq : k0_pay16 r hot x k = kSt r (kAdd x k hot) := rfl
/-- The running total after the layer. -/
theorem pay17_eq : k0_pay17 r q hot x k = addf q (kSt r (kAdd x k hot)) := rfl
/-- The residual after the layer. -/
theorem pay18_eq : k0_pay18 r hot x k = kNext r (kAdd x k hot) := rfl

/-! ### The second -/

/-- The scores of the next layer. -/
theorem pay19_eq : k0_pay19 r hot x k b n = kScore b n (kNext r (kAdd x k hot)) := rfl
/-- The indices of the layer. -/
theorem pay20_eq : k0_pay20 s = kIdx s := rfl
/-- The one-hot columns of the layer. -/
theorem pay21_eq : k0_pay21 rows s = kHot (kIdx s) := rfl
/-- The code vectors of the layer. -/
theorem pay22_eq : k0_pay22 rows s h l k = kAdd (kTwo h l (kHot (kIdx s))) k (kHot (kIdx s)) := rfl
/-- The counts after the layer. -/
theorem pay23_eq : k0_pay23 rows s n = kCount n (kHot (kIdx s)) := rfl
/-- The squared distances after the layer. -/
theorem pay24_eq : k0_pay25 (k0_pay24 rows r s h l k a) = kLoss a r (kAdd (kTwo h l (kHot (kIdx s))) k (kHot (kIdx s))) := cast11 _
/-- The straight-through value of the layer. -/
theorem pay26_eq : k0_pay26 r x = kSt r x := rfl
/-- The running total after the layer. -/
theorem pay27_eq : k0_pay27 q r x = addf q (kSt r x) := rfl
/-- The residual after the layer. -/
theorem pay28_eq : k0_pay28 r x = kNext r x := rfl

/-! ### The third -/

/-- The indices of the layer. -/
theorem pay29_eq : k0_pay29 r x b n = kIdx (kScore b n (kNext r x)) := rfl
/-- The one-hot columns of the layer. -/
theorem pay30_eq : k0_pay30 rows r x b n = kHot (kIdx (kScore b n (kNext r x))) := rfl
/-- The code vectors of the layer. -/
theorem pay31_eq : k0_pay31 rows r x b n h l k = kAdd (kTwo h l (kHot (kIdx (kScore b n (kNext r x))))) k (kHot (kIdx (kScore b n (kNext r x)))) := rfl
/-- The counts after the layer. -/
theorem pay34_eq (n' : Vec Ideal S1x1024x1 .f32) :
    k0_pay34 (k0_pay32 n') (k0_pay33 rows r x b n) = kCount n' (kHot (kIdx (kScore b n (kNext r x)))) := rfl
/-- The squared distances after the layer. -/
theorem pay35_eq : k0_pay35 r x a = kLoss a r x := cast11 _
/-- The straight-through value of the layer. -/
theorem pay36_eq : k0_pay36 r x = kSt r x := rfl
/-- The running total after the layer. -/
theorem pay37_eq : k0_pay37 q r x = addf q (kSt r x) := rfl
/-- The residual after the layer. -/
theorem pay38_eq : k0_pay38 r x = kNext r x := rfl

/-! ### The fourth -/

/-- The indices of the layer. -/
theorem pay39_eq : k0_pay39 r x b n = kIdx (kScore b n (kNext r x)) := rfl
/-- The one-hot columns of the layer. -/
theorem pay40_eq : k0_pay40 rows r x b n = kHot (kIdx (kScore b n (kNext r x))) := rfl
/-- The code vectors of the layer. -/
theorem pay42_eq : k0_pay42 hot (k0_pay41 h) l k = kAdd (kTwo h l hot) k hot := rfl
/-- The counts after the layer. -/
theorem pay43_eq : k0_pay43 hot n = kCount n hot := rfl
/-- The squared distances after the layer. -/
theorem pay44_eq : k0_pay44 r hot (k0_pay41 h) l k a = kLoss a r (kAdd (kTwo h l hot) k hot) := cast11 _
/-- The straight-through value of the layer. -/
theorem pay45_eq : k0_pay45 r hot (k0_pay41 h) l k = kSt r (kAdd (kTwo h l hot) k hot) := rfl
/-- The running total after the layer. -/
theorem pay46_eq : k0_pay46 q r hot (k0_pay41 h) l k = addf q (kSt r (kAdd (kTwo h l hot) k hot)) := rfl
/-- The residual after the layer. -/
theorem pay47_eq : k0_pay47 r hot (k0_pay41 h) l k = kNext r (kAdd (kTwo h l hot) k hot) := rfl

/-! ### The fifth -/

/-- The indices of the layer. -/
theorem pay48_eq : k0_pay48 r b n = kIdx (kScore b n r) := rfl
/-- The one-hot columns of the layer. -/
theorem pay49_eq : k0_pay49 rows r b n = kHot (kIdx (kScore b n r)) := rfl
/-- The code vectors of the layer. -/
theorem pay50_eq : k0_pay50 rows r b n h l k = kAdd (kTwo h l (kHot (kIdx (kScore b n r)))) k (kHot (kIdx (kScore b n r))) := rfl
/-- The counts after the layer. -/
theorem pay51_eq (n' : Vec Ideal S1x1024x1 .f32) : k0_pay51 rows r b n n' = kCount n' (kHot (kIdx (kScore b n r))) := rfl
/-- The squared distances after the layer. -/
theorem pay53_eq : k0_pay53 (k0_pay52 rows r b n h l k) a
    = kLoss a r (kAdd (kTwo h l (kHot (kIdx (kScore b n r)))) k (kHot (kIdx (kScore b n r)))) := cast11 _
/-- The straight-through value of the layer. -/
theorem pay54_eq : k0_pay54 r x = kSt r x := rfl
/-- The running total after the layer. -/
theorem pay55_eq : k0_pay55 q r x = addf q (kSt r x) := rfl
/-- The residual after the layer. -/
theorem pay56_eq : k0_pay56 r x = kNext r x := rfl

/-! ### The last -/

/-- The indices of the layer. -/
theorem pay57_eq : k0_pay57 r x b n = kIdx (kScore b n (kNext r x)) := rfl
/-- The one-hot columns of the layer. -/
theorem pay58_eq : k0_pay58 rows r x b n = kHot (kIdx (kScore b n (kNext r x))) := rfl
/-- The first two parts of the code vectors. -/
theorem pay59_eq : k0_pay59 rows r x b n h l = kTwo h l (kHot (kIdx (kScore b n (kNext r x)))) := rfl
/-- The code vectors of the layer. -/
theorem pay60_eq : k0_pay60 hot x k = kAdd x k hot := rfl
/-- The counts after the layer. -/
theorem pay61_eq : k0_pay61 hot n = kCount n hot := rfl
/-- The squared distances after the layer. -/
theorem pay62_eq : k0_pay62 r hot x k a = kLoss a r (kAdd x k hot) := cast11 _
/-- The running total after the layer. -/
theorem pay63_eq : k0_pay63 q r hot x k = addf q (kSt r (kAdd x k hot)) := rfl

end Cert.KernelIdeal.Layer

end
-- ==== Proof.KernelBody.lean ====
module

public import proofs.«01_k».proof.Proof.KernelPay
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Layer

open Cert.KernelIdeal Cert.KernelIdeal.Gen

/-- The low lanes of the sum of the code vectors, as the store writes them. -/
def lowQ (y : FVec Ideal S256x1024 .f32) : FVec Ideal S1x256x512 .f32 :=
  shapeCast S1x256x512 (extractStridedSlice S256x512 ![0, 0] y slices_S256x1024_o0_0_S256x512) shapeCasts_S256x512_S1x256x512

/-- The low lanes of the indices, as the store writes them. -/
def lowIx (y : IVec S6x1024 32) : IVec S1x6x512 32 :=
  shapeCast S1x6x512 (extractStridedSlice S6x512 ![0, 0] y slices_S6x1024_o0_0_S6x512) shapeCasts_S6x512_S1x6x512

/-- The low lanes of the total after the last layer. -/
theorem pay65_eq (q r : FVec Ideal S256x1024 .f32) (hot : FVec Ideal S1024x1024 .bf16) (x : FVec Ideal S256x1024 .f32) (k : Vec Ideal S1x1024x256 .bf16) :
    k0_pay65 q r hot x k = lowQ (addf q (kSt r (kAdd x k hot))) := rfl
/-- The low lanes of the indices. -/
theorem pay66_eq (a0 a1 a2 a3 a4 a5 : IVec S1x1024 32) : k0_pay66 a0 a1 a2 a3 a4 a5 = lowIx (k0_pay64 a0 a1 a2 a3 a4 a5) := rfl

/-- Slab `i` of a codebook array. -/
def slab (W : Vec Ideal S6x1024x256 .bf16) (i : Fin 6) : Vec Ideal S1x1024x256 .bf16 :=
  View.ld W (Rect.unit (s := S6x1024x256) ![i.val, 0, 0] ![1, 1024, 256] (by intro a; have := i.isLt; fin_cases a <;> simp <;> omega))

/-- Column `i` of a per-code array. -/
def col (W : Vec Ideal S6x1024x1 .f32) (i : Fin 6) : Vec Ideal S1x1024x1 .f32 :=
  View.ld W (Rect.unit (s := S6x1024x1) ![i.val, 0, 0] ![1, 1024, 1] (by intro a; have := i.isLt; fin_cases a <;> simp <;> omega))

/-- Batch row `j` of an input block. -/
def half (W : Vec Ideal S2x256x512 .f32) (j : Fin 2) : Vec Ideal S1x256x512 .f32 :=
  View.ld W (Rect.unit (s := S2x256x512) ![j.val, 0, 0] ![1, 256, 512] (by intro a; have := j.isLt; fin_cases a <;> simp <;> omega))

/-- The load of the first codebook. -/
theorem slab_0 (W : Vec Ideal S6x1024x256 .bf16) : View.ld W (Rect.unit (s := S6x1024x256) ![0, 0, 0] ![1, 1024, 256] inb_S6x1024x256_S1x1024x256_0_0_0) = slab W 0 := rfl
/-- The load of the first column. -/
theorem col_0 (W : Vec Ideal S6x1024x1 .f32) : View.ld W (Rect.unit (s := S6x1024x1) ![0, 0, 0] ![1, 1024, 1] inb_S6x1024x1_S1x1024x1_0_0_0) = col W 0 := rfl
/-- The load of the second codebook. -/
theorem slab_1 (W : Vec Ideal S6x1024x256 .bf16) : View.ld W (Rect.unit (s := S6x1024x256) ![1, 0, 0] ![1, 1024, 256] inb_S6x1024x256_S1x1024x256_1_0_0) = slab W 1 := rfl
/-- The load of the second column. -/
theorem col_1 (W : Vec Ideal S6x1024x1 .f32) : View.ld W (Rect.unit (s := S6x1024x1) ![1, 0, 0] ![1, 1024, 1] inb_S6x1024x1_S1x1024x1_1_0_0) = col W 1 := rfl
/-- The load of the third codebook. -/
theorem slab_2 (W : Vec Ideal S6x1024x256 .bf16) : View.ld W (Rect.unit (s := S6x1024x256) ![2, 0, 0] ![1, 1024, 256] inb_S6x1024x256_S1x1024x256_2_0_0) = slab W 2 := rfl
/-- The load of the third column. -/
theorem col_2 (W : Vec Ideal S6x1024x1 .f32) : View.ld W (Rect.unit (s := S6x1024x1) ![2, 0, 0] ![1, 1024, 1] inb_S6x1024x1_S1x1024x1_2_0_0) = col W 2 := rfl
/-- The load of the fourth codebook. -/
theorem slab_3 (W : Vec Ideal S6x1024x256 .bf16) : View.ld W (Rect.unit (s := S6x1024x256) ![3, 0, 0] ![1, 1024, 256] inb_S6x1024x256_S1x1024x256_3_0_0) = slab W 3 := rfl
/-- The load of the fourth column. -/
theorem col_3 (W : Vec Ideal S6x1024x1 .f32) : View.ld W (Rect.unit (s := S6x1024x1) ![3, 0, 0] ![1, 1024, 1] inb_S6x1024x1_S1x1024x1_3_0_0) = col W 3 := rfl
/-- The load of the fifth codebook. -/
theorem slab_4 (W : Vec Ideal S6x1024x256 .bf16) : View.ld W (Rect.unit (s := S6x1024x256) ![4, 0, 0] ![1, 1024, 256] inb_S6x1024x256_S1x1024x256_4_0_0) = slab W 4 := rfl
/-- The load of the fifth column. -/
theorem col_4 (W : Vec Ideal S6x1024x1 .f32) : View.ld W (Rect.unit (s := S6x1024x1) ![4, 0, 0] ![1, 1024, 1] inb_S6x1024x1_S1x1024x1_4_0_0) = col W 4 := rfl
/-- The load of the sixth codebook. -/
theorem slab_5 (W : Vec Ideal S6x1024x256 .bf16) : View.ld W (Rect.unit (s := S6x1024x256) ![5, 0, 0] ![1, 1024, 256] inb_S6x1024x256_S1x1024x256_5_0_0) = slab W 5 := rfl
/-- The load of the sixth column. -/
theorem col_5 (W : Vec Ideal S6x1024x1 .f32) : View.ld W (Rect.unit (s := S6x1024x1) ![5, 0, 0] ![1, 1024, 1] inb_S6x1024x1_S1x1024x1_5_0_0) = col W 5 := rfl
/-- The load of the first batch entry of the block. -/
theorem half_0 (W : Vec Ideal S2x256x512 .f32) : View.ld W (Rect.unit (s := S2x256x512) ![0, 0, 0] ![1, 256, 512] inb_S2x256x512_S1x256x512_0_0_0) = half W 0 := rfl
/-- The load of the second batch entry of the block. -/
theorem half_1 (W : Vec Ideal S2x256x512 .f32) : View.ld W (Rect.unit (s := S2x256x512) ![1, 0, 0] ![1, 256, 512] inb_S2x256x512_S1x256x512_1_0_0) = half W 1 := rfl
/-- The row numbers. -/
theorem rows_fold : iota .tc S1024x1024 32 ([0] : List (Fin 2)) iota_S1024x1024_d0_w32 = rows := rfl
/-- The first layer as a number. -/
theorem fv0 : (0 : Fin 6).val = 0 := rfl
/-- The first layer from its number. -/
theorem of0 : Fin.ofNat 6 0 = 0 := rfl
/-- The second layer as a number. -/
theorem fv1 : (1 : Fin 6).val = 1 := rfl
/-- The second layer from its number. -/
theorem of1 : Fin.ofNat 6 1 = 1 := rfl
/-- The third layer as a number. -/
theorem fv2 : (2 : Fin 6).val = 2 := rfl
/-- The third layer from its number. -/
theorem of2 : Fin.ofNat 6 2 = 2 := rfl
/-- The fourth layer as a number. -/
theorem fv3 : (3 : Fin 6).val = 3 := rfl
/-- The fourth layer from its number. -/
theorem of3 : Fin.ofNat 6 3 = 3 := rfl
/-- The fifth layer as a number. -/
theorem fv4 : (4 : Fin 6).val = 4 := rfl
/-- The fifth layer from its number. -/
theorem of4 : Fin.ofNat 6 4 = 4 := rfl
/-- The sixth layer as a number. -/
theorem fv5 : (5 : Fin 6).val = 5 := rfl
/-- The sixth layer from its number. -/
theorem of5 : Fin.ofNat 6 5 = 5 := rfl

/-- The whole counts read back after the stores are what the stores left. -/
theorem readWhole (L : List (View.Piece (Elt Ideal) S6x1024x1 .f32)) :
    (View.whole cc0_scratch0).readCov L (Rect.unit (s := S6x1024x1) ![0, 0, 0] ![6, 1024, 1] inb_S6x1024x1_S6x1024x1_0_0_0).toLoadRect = View.canon L := by
  rw [View.readCov_eq_canon']
  funext j
  refine congrArg (View.canon L) (funext fun a => Fin.ext ?_)
  fin_cases a <;> simp [Rect.unit]

/-! ### The tiles that the stores write -/

/-- The block of quantized values that the body's two stores leave, from the sum of the code vectors. -/
def quantTiles (y : FVec Ideal S256x1024 .f32) : Vec Ideal S2x256x512 .f32 :=
  View.canon [⟨Rect.unit (s := S2x256x512) ![1, 0, 0] ![1, 256, 512] inb_S2x256x512_S1x256x512_1_0_0, k0_pay1 y⟩,
    ⟨Rect.unit (s := S2x256x512) ![0, 0, 0] ![1, 256, 512] inb_S2x256x512_S1x256x512_0_0_0, lowQ y⟩]

/-- The block of indices that the body's two stores leave, from the stacked indices. -/
def idxTiles (y : IVec S6x1024 32) : Vec Ideal S2x6x512 .i32 :=
  View.canon [⟨Rect.unit (s := S2x6x512) ![1, 0, 0] ![1, 6, 512] inb_S2x6x512_S1x6x512_1_0_0, k0_pay2 y⟩,
    ⟨Rect.unit (s := S2x6x512) ![0, 0, 0] ![1, 6, 512] inb_S2x6x512_S1x6x512_0_0_0, lowIx y⟩]

/-- The six stores of the layers' counts, the last one first, over the stores before them. -/
def countTiles (P : Fin 6 → Vec Ideal S1x1024x1 .f32) (L : List (View.Piece (Elt Ideal) S6x1024x1 .f32)) : Vec Ideal S6x1024x1 .f32 :=
  View.canon (⟨Rect.unit (s := S6x1024x1) ![5, 0, 0] ![1, 1024, 1] inb_S6x1024x1_S1x1024x1_5_0_0, P 5⟩ ::
    ⟨Rect.unit (s := S6x1024x1) ![4, 0, 0] ![1, 1024, 1] inb_S6x1024x1_S1x1024x1_4_0_0, P 4⟩ ::
    ⟨Rect.unit (s := S6x1024x1) ![3, 0, 0] ![1, 1024, 1] inb_S6x1024x1_S1x1024x1_3_0_0, P 3⟩ ::
    ⟨Rect.unit (s := S6x1024x1) ![2, 0, 0] ![1, 1024, 1] inb_S6x1024x1_S1x1024x1_2_0_0, P 2⟩ ::
    ⟨Rect.unit (s := S6x1024x1) ![1, 0, 0] ![1, 1024, 1] inb_S6x1024x1_S1x1024x1_1_0_0, P 1⟩ ::
    ⟨Rect.unit (s := S6x1024x1) ![0, 0, 0] ![1, 1024, 1] inb_S6x1024x1_S1x1024x1_0_0_0, P 0⟩ :: L)

variable (m : (ℓ : Loc nD τ sig) → Buf (Elt Ideal) ℓ)

/-- The block of inputs, its two batch rows side by side. -/
abbrev blkX (c : Dev nD) (t : Fin cfg0.N) : FVec Ideal S256x1024 .f32 := k0_pay8 (half (iblk m c 0 t) 0) (half (iblk m c 0 t) 1)

/-- The residual that layer `i` meets at block `t`, over half the squared norms `Z`. -/
def bR (c : Dev nD) (t : Fin cfg0.N) (Z : Vec Ideal S6x1024x1 .f32) (i : ℕ) : FVec Ideal S256x1024 .f32 :=
  kR (slab (iblk m c 2 t)) (slab (iblk m c 3 t)) (slab (iblk m c 4 t)) (slab (iblk m c 5 t)) (col Z) (blkX m c t) i

/-- The indices that layer `i` chooses at block `t`. -/
def bIx (c : Dev nD) (t : Fin cfg0.N) (Z : Vec Ideal S6x1024x1 .f32) (i : Fin 6) : IVec S1x1024 32 :=
  kIdx (kScore (slab (iblk m c 2 t) i) (col Z i) (bR m c t Z i.val))

/-- What the body leaves at block `t`, over half the squared norms `Z`, the counts `n` and the loss accumulator `a` that it
    works from. -/
structure Body (c : Dev nD) (t : Fin cfg0.N) (Z n : Vec Ideal S6x1024x1 .f32) (a : Vec Ideal S1x1 .f32) : Prop where
  quant : (outsAt0 m c t.val t.isLt).1 = quantTiles (kQ (slab (iblk m c 2 t)) (slab (iblk m c 3 t)) (slab (iblk m c 4 t)) (slab (iblk m c 5 t)) (col Z) (blkX m c t) 6)
  index : (outsAt0 m c t.val t.isLt).2.1 = idxTiles (k0_pay64 (bIx m c t Z 0) (bIx m c t Z 1) (bIx m c t Z 2) (bIx m c t Z 3) (bIx m c t Z 4) (bIx m c t Z 5))
  norm : (outsAt0 m c t.val t.isLt).2.2.2.2.2.1 = Z
  count : ∃ L, (outsAt0 m c t.val t.isLt).2.2.2.2.1 = countTiles (fun i => kCount (col n i) (kHot (bIx m c t Z i))) L
  acc : (outsAt0 m c t.val t.isLt).2.2.2.2.2.2 = kA (slab (iblk m c 2 t)) (slab (iblk m c 3 t)) (slab (iblk m c 4 t)) (slab (iblk m c 5 t)) (col Z) (blkX m c t) a 6

/-- The first block: the body first fills the norms, the counts and the accumulator. -/
theorem body_A (c : Dev nD) (t : Fin cfg0.N) (h0 : t.val % 8 = 0) (h1 : ¬t.val % 8 = 7) :
    Body m c t (k0_pay5 (iblk m c 1 t)) (k0_pay6 (F := Ideal)) (k0_pay7 (F := Ideal)) := by
  refine ⟨?_, ?_, ?_, ⟨[⟨Rect.unit (s := S6x1024x1) ![0, 0, 0] ![6, 1024, 1] inb_S6x1024x1_S6x1024x1_0_0_0, k0_pay6 (F := Ideal)⟩], ?_⟩, ?_⟩
  all_goals (rw [outsAt0_A m c t h0 h1]; frame_out; try simp (disch := decide) only [↓View.readCov_fill, ↓View.readCov_skip])
  all_goals simp only [read_unread_whole, rows_fold, slab_0, col_0, of0, slab_1, col_1, of1, slab_2, col_2, of2, slab_3, col_3, of3, slab_4, col_4, of4, slab_5, col_5, of5, half_0, half_1, kA, kQ, kR, kRowOf, kHotOf, bR, bIx, quantTiles, idxTiles, countTiles, fv0, fv1, fv2, fv3, fv4, fv5]
  all_goals simp only [pay10_eq, pay11_eq, pay12_eq, pay13_eq, pay14_eq, pay15_eq, pay16_eq, pay17_eq, pay18_eq, pay19_eq, pay20_eq, pay21_eq, pay22_eq,
    pay23_eq, pay24_eq, pay28_eq, pay27_eq, pay30_eq, pay29_eq, pay31_eq, pay34_eq, pay35_eq, pay37_eq, pay38_eq, pay39_eq, pay40_eq,
    pay42_eq, pay43_eq, pay44_eq, pay46_eq, pay47_eq, pay48_eq, pay49_eq, pay50_eq, pay51_eq, pay53_eq, pay55_eq, pay56_eq, pay57_eq,
    pay58_eq, pay59_eq, pay60_eq, pay61_eq, pay62_eq, pay63_eq, pay65_eq, pay66_eq]

/-- A block between. -/
theorem body_B (c : Dev nD) (t : Fin cfg0.N) (h0 : ¬t.val % 8 = 0) (h1 : ¬t.val % 8 = 7) :
    Body m c t (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.2 := by
  refine ⟨?_, ?_, by rw [outsAt0_B m c t h0 h1]; rfl, ⟨[], ?_⟩, ?_⟩
  all_goals (rw [outsAt0_B m c t h0 h1]; frame_out)
  all_goals simp only [read_unread_whole, rows_fold, slab_0, col_0, of0, slab_1, col_1, of1, slab_2, col_2, of2, slab_3, col_3, of3, slab_4, col_4, of4, slab_5, col_5, of5, half_0, half_1, kA, kQ, kR, kRowOf, kHotOf, bR, bIx, quantTiles, idxTiles, countTiles, fv0, fv1, fv2, fv3, fv4, fv5]
  all_goals simp only [pay10_eq, pay11_eq, pay12_eq, pay13_eq, pay14_eq, pay15_eq, pay16_eq, pay17_eq, pay18_eq, pay19_eq, pay20_eq, pay21_eq, pay22_eq,
    pay23_eq, pay24_eq, pay28_eq, pay27_eq, pay30_eq, pay29_eq, pay31_eq, pay34_eq, pay35_eq, pay37_eq, pay38_eq, pay39_eq, pay40_eq,
    pay42_eq, pay43_eq, pay44_eq, pay46_eq, pay47_eq, pay48_eq, pay49_eq, pay50_eq, pay51_eq, pay53_eq, pay55_eq, pay56_eq, pay57_eq,
    pay58_eq, pay59_eq, pay60_eq, pay61_eq, pay62_eq, pay63_eq, pay65_eq, pay66_eq]

/-- The last block. -/
theorem body_C (c : Dev nD) (t : Fin cfg0.N) (h0 : ¬t.val % 8 = 0) (h1 : t.val % 8 = 7) :
    Body m c t (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.2 := by
  refine ⟨?_, ?_, by rw [outsAt0_C m c t h0 h1]; rfl, ⟨[], ?_⟩, ?_⟩
  all_goals (rw [outsAt0_C m c t h0 h1]; frame_out)
  all_goals simp only [read_unread_whole, rows_fold, slab_0, col_0, of0, slab_1, col_1, of1, slab_2, col_2, of2, slab_3, col_3, of3, slab_4, col_4, of4, slab_5, col_5, of5, half_0, half_1, kA, kQ, kR, kRowOf, kHotOf, bR, bIx, quantTiles, idxTiles, countTiles, fv0, fv1, fv2, fv3, fv4, fv5]
  all_goals simp only [pay10_eq, pay11_eq, pay12_eq, pay13_eq, pay14_eq, pay15_eq, pay16_eq, pay17_eq, pay18_eq, pay19_eq, pay20_eq, pay21_eq, pay22_eq,
    pay23_eq, pay24_eq, pay28_eq, pay27_eq, pay30_eq, pay29_eq, pay31_eq, pay34_eq, pay35_eq, pay37_eq, pay38_eq, pay39_eq, pay40_eq,
    pay42_eq, pay43_eq, pay44_eq, pay46_eq, pay47_eq, pay48_eq, pay49_eq, pay50_eq, pay51_eq, pay53_eq, pay55_eq, pay56_eq, pay57_eq,
    pay58_eq, pay59_eq, pay60_eq, pay61_eq, pay62_eq, pay63_eq, pay65_eq, pay66_eq]

/-- The last block's loss is the accumulator scaled. -/
theorem loss_C (c : Dev nD) (t : Fin cfg0.N) (h0 : ¬t.val % 8 = 0) (h1 : t.val % 8 = 7) :
    (outsAt0 m c t.val t.isLt).2.2.1 = k0_pay4 (outsAt0 m c t.val t.isLt).2.2.2.2.2.2 := by
  rw [outsAt0_C m c t h0 h1]; frame_out

/-- The last block's perplexity is taken from the counts. -/
theorem perp_C (c : Dev nD) (t : Fin cfg0.N) (h0 : ¬t.val % 8 = 0) (h1 : t.val % 8 = 7) :
    (outsAt0 m c t.val t.isLt).2.2.2.1 = k0_pay3 (outsAt0 m c t.val t.isLt).2.2.2.2.1 := by
  rw [outsAt0_C m c t h0 h1]; frame_out
  rw [readWhole]

end Cert.KernelIdeal.Layer

end
-- ==== Proof.KernelTiles.lean ====
/-
  The body's tiles read at an index: what the stores of a block leave at each place, and what its loads read.
-/
module

public import proofs.«01_k».proof.Proof.KernelBody
public import Idealize.ShloMosaic.Lib.Pointwise

@[expose] public section

set_option maxRecDepth 16384

noncomputable section

open Idealize.ShloMosaic Idealize.ShloMosaic.TcCoe Idealize.SL.Sem

namespace Cert.KernelIdeal.Layer

open Cert.KernelIdeal Cert.KernelIdeal.Gen

/-- The lane of position `s` of batch row `j`. -/
def lane (j : Fin 2) (s : Fin 512) : Fin 1024 := ⟨j.val * 512 + s.val, by omega⟩

/-- A slab at an entry. -/
theorem slab_at (W : Vec Ideal S6x1024x256 .bf16) (i : Fin 6) (k : Fin 1024) (c : Fin 256) : slab W i (ix3 0 k c) = W (ix3 i k c) := by
  refine congrArg W (funext fun a => Fin.ext ?_)
  fin_cases a <;> simp [Rect.unit, LoadRect.idx, ix3]

/-- A column at an entry. -/
theorem col_at (W : Vec Ideal S6x1024x1 .f32) (i : Fin 6) (k : Fin 1024) : col W i (ix3 0 k 0) = W (ix3 i k 0) := by
  refine congrArg W (funext fun a => Fin.ext ?_)
  fin_cases a <;> simp [Rect.unit, LoadRect.idx, ix3]

/-- A batch row at an entry. -/
theorem half_at (W : Vec Ideal S2x256x512 .f32) (j : Fin 2) (c : Fin 256) (s : Fin 512) : half W j (ix3 0 c s) = W (ix3 j c s) := by
  refine congrArg W (funext fun a => Fin.ext ?_)
  fin_cases a <;> simp [Rect.unit, LoadRect.idx, ix3]

/-- The two batch rows side by side, at an entry. -/
theorem pay8_at (W : Vec Ideal S2x256x512 .f32) (j : Fin 2) (c : Fin 256) (s : Fin 512) :
    k0_pay8 (half W 0) (half W 1) (ix2 c (lane j s)) = W (ix3 j c s) := by
  have hj : j = 0 ∨ j = 1 := by omega
  pointwise [k0_pay8, lane]
  have hs := s.isLt
  rcases hj with rfl | rfl
  · rw [dif_pos (by simp), half_at]
    exact congrArg (fun z => W (ix3 0 c z)) (Fin.ext (by simp))
  · rw [dif_neg (by simp), half_at]
    exact congrArg (fun z => W (ix3 1 c z)) (Fin.ext (by simp))

/-- The quantized block at an entry. -/
theorem quantTiles_at (y : FVec Ideal S256x1024 .f32) (j : Fin 2) (c : Fin 256) (s : Fin 512) : quantTiles y (ix3 j c s) = y (ix2 c (lane j s)) := by
  unfold quantTiles
  canon_tiles x h
  · obtain rfl : x = ix3 0 c s := by funext a; refine Fin.ext ?_; fin_cases a; exacts [by have := x0_lt; simp [ix3], h1.symm, h2.symm]
    have h0' : j.val = 1 + 0 := h0
    pointwise [k0_pay1, lane]
    refine congrArg (fun z => y (ix2 c z)) (Fin.ext ?_)
    simp [h0']; try omega
  · obtain rfl : x = ix3 0 c s := by funext a; refine Fin.ext ?_; fin_cases a; exacts [by have := x0_lt; simp [ix3], h1.symm, h2.symm]
    have h0' : j.val = 0 := h0
    pointwise [lowQ, lane]
    refine congrArg (fun z => y (ix2 c z)) (Fin.ext ?_)
    simp [h0']; try omega

/-- The indices' block at an entry. -/
theorem idxTiles_at (P : Fin 6 → IVec S1x1024 32) (j : Fin 2) (i : Fin 6) (s : Fin 512) :
    idxTiles (k0_pay64 (P 0) (P 1) (P 2) (P 3) (P 4) (P 5)) (ix3 j i s) = P i (ix2 0 (lane j s)) := by
  unfold idxTiles
  canon_tiles x h
  · obtain rfl : x = ix3 0 i s := by funext a; refine Fin.ext ?_; fin_cases a; exacts [by have := x0_lt; simp [ix3], h1.symm, h2.symm]
    have h0' : j.val = 1 + 0 := h0
    have e : (⟨512 + s.val, by omega⟩ : Fin 1024) = lane j s := Fin.ext (by simp [lane, h0'])
    rw [← e]
    have : i = 0 ∨ i = 1 ∨ i = 2 ∨ i = 3 ∨ i = 4 ∨ i = 5 := by omega
    rcases this with rfl | rfl | rfl | rfl | rfl | rfl <;> pointwise [k0_pay2, k0_pay64]
  · obtain rfl : x = ix3 0 i s := by funext a; refine Fin.ext ?_; fin_cases a; exacts [by have := x0_lt; simp [ix3], h1.symm, h2.symm]
    have h0' : j.val = 0 := h0
    have e : (⟨s.val, by omega⟩ : Fin 1024) = lane j s := Fin.ext (by simp [lane, h0'])
    rw [← e]
    have : i = 0 ∨ i = 1 ∨ i = 2 ∨ i = 3 ∨ i = 4 ∨ i = 5 := by omega
    rcases this with rfl | rfl | rfl | rfl | rfl | rfl <;> pointwise [lowIx, k0_pay64]

/-- A store of one layer's counts over earlier stores, at an entry. -/
theorem canon_row (o : ℕ) (inb : ∀ a, (![o, 0, 0] : Fin 3 → ℕ) a + (![1, 1024, 1] : Fin 3 → ℕ) a ≤ S6x1024x1.size a) (w : Vec Ideal S1x1024x1 .f32)
    (L : List (View.Piece (Elt Ideal) S6x1024x1 .f32)) (i : Fin 6) (k : Fin 1024) :
    View.canon (⟨Rect.unit (s := S6x1024x1) ![o, 0, 0] ![1, 1024, 1] inb, w⟩ :: L) (ix3 i k 0)
      = if i.val = o then w (ix3 0 k 0) else View.canon L (ix3 i k 0) := by
  by_cases h : i.val = o
  · have e : (ix3 i k 0 : S6x1024x1.Idx) = (Rect.unit (s := S6x1024x1) ![o, 0, 0] ![1, 1024, 1] inb).emb (ix3 0 k 0) := by
      funext a
      refine Fin.ext ?_
      rw [Rect.emb_apply]
      fin_cases a <;> simp [Rect.unit, ix3, h]
    rw [if_pos h, e, View.canon_cons_emb]
  · rw [if_neg h, View.canon_cons_of_not_mem]
    intro hm
    rw [Rect.mem_set_unit] at hm
    have := hm 0
    simp [ix3] at this
    omega

/-- The counts at an entry. -/
theorem countTiles_at (P : Fin 6 → Vec Ideal S1x1024x1 .f32) (L : List (View.Piece (Elt Ideal) S6x1024x1 .f32)) (i : Fin 6) (k : Fin 1024) :
    countTiles P L (ix3 i k 0) = P i (ix3 0 k 0) := by
  unfold countTiles
  rw [canon_row, canon_row, canon_row, canon_row, canon_row, canon_row]
  have : i = 0 ∨ i = 1 ∨ i = 2 ∨ i = 3 ∨ i = 4 ∨ i = 5 := by omega
  rcases this with rfl | rfl | rfl | rfl | rfl | rfl <;> simp

end Cert.KernelIdeal.Layer

end
-- ==== Proof.Consts.lean ====
/-
  The float patterns that the two programs hold, as extended reals.
-/
module

public import Idealize.ShloMosaic.Lib.IdealHost

@[expose] public section

namespace Cert.Rvq

open Idealize.ShloMosaic

/-- The f32 pattern of two. -/
theorem ofBits_two : Ideal.ofBits .f32 0x40000000#32 = ((2 : ℝ) : EReal) := by
  simp [Ideal.ofBits, Ideal.ieee, -EReal.coe_mul]; norm_num

/-- The f32 pattern of one half. -/
theorem ofBits_half : Ideal.ofBits .f32 0x3F000000#32 = ((1 / 2 : ℝ) : EReal) := by
  simp [Ideal.ofBits, Ideal.ieee, -EReal.coe_mul]; norm_num

/-- The f32 pattern of six. -/
theorem ofBits_six : Ideal.ofBits .f32 0x40C00000#32 = ((6 : ℝ) : EReal) := by
  simp [Ideal.ofBits, Ideal.ieee, -EReal.coe_mul]; norm_num

/-- The f32 pattern of 256. -/
theorem ofBits_256 : Ideal.ofBits .f32 0x43800000#32 = ((256 : ℝ) : EReal) := by
  simp [Ideal.ofBits, Ideal.ieee, -EReal.coe_mul]; norm_num

/-- The f32 pattern of 8192. -/
theorem ofBits_8192 : Ideal.ofBits .f32 0x46000000#32 = ((8192 : ℝ) : EReal) := by
  simp [Ideal.ofBits, Ideal.ieee, -EReal.coe_mul]; norm_num

/-- The f32 pattern of 2097152. -/
theorem ofBits_2097152 : Ideal.ofBits .f32 0x4A000000#32 = ((2097152 : ℝ) : EReal) := by
  simp [Ideal.ofBits, Ideal.ieee, -EReal.coe_mul]; norm_num

/-- The f32 pattern of the negative infinity is the least extended real. -/
theorem ofBits_neg_inf : Ideal.ofBits .f32 0xFF800000#32 = ⊥ := by
  simp [Ideal.ofBits, Ideal.ieee]

/-- The f32 pattern of the positive infinity is the greatest extended real. -/
theorem ofBits_inf : Ideal.ofBits .f32 0x7F800000#32 = ⊤ := by
  simp [Ideal.ofBits, Ideal.ieee]

end Cert.Rvq
-- ==== Proof.KernelInputs.lean ====
/-
  The blocks that the body reads, over the real numbers that the input and the codebooks hold.
-/
module

public import proofs.«01_k».proof.Proof.KernelTiles
public import proofs.«01_k».proof.Proof.Consts
public import Idealize.ShloMosaic.Lib.Claim

@[expose] public section

set_option maxRecDepth 16384

noncomputable section

open Idealize.ShloMosaic Idealize.ShloMosaic.TcCoe Idealize.SL.Sem

namespace Cert.KernelIdeal.Layer

open Cert.KernelIdeal Cert.KernelIdeal.Gen

/-- The blocks that the windows' index maps name. -/
theorem idx : ∀ t : Fin cfg0.N, win0_0.index t = ![t.val, 0, 0] ∧ win0_1.index t = ![0, 0, 0] ∧ win0_2.index t = ![0, 0, 0] ∧
    win0_3.index t = ![0, 0, 0] ∧ win0_4.index t = ![0, 0, 0] ∧ win0_5.index t = ![0, 0, 0] ∧ win0_6.index t = ![t.val, 0, 0] ∧ win0_7.index t = ![t.val, 0, 0] :=
  (by decide +kernel : ∀ t : Fin grid0.N, _)

variable (m : (ℓ : Loc nD τ sig) → Buf (Elt Ideal) ℓ) (C : Fin 6 → Fin 1024 → Fin 256 → ℝ) (X : Fin 8192 → Fin 256 → ℝ)

/-- The input and the codebooks hold the real numbers `X` and `C`. -/
structure Holds (c : Dev nD) : Prop where
  x : ∀ (b : Fin 16) (ch : Fin 256) (s : Fin 512), (m ((c : Thread nD τ).loc main_arg0) : FVec Ideal S16x256x512 .f32) (ix3 b ch s) = (X (Rvq.pos b s) ch : EReal)
  k : ∀ (i : Fin 6) (k : Fin 1024) (ch : Fin 256), (m ((c : Thread nD τ).loc main_arg1) : FVec Ideal S6x1024x256 .f32) (ix3 i k ch) = (C i k ch : EReal)

/-- There are eight blocks. -/
theorem lt8 (t : Fin cfg0.N) : t.val < 8 := lt_of_lt_of_eq t.isLt (by decide +kernel)

/-- The position of the array that lane `p` of block `t` is. -/
def at8 (t : Fin cfg0.N) (p : Fin 1024) : Fin 8192 := ⟨t.val * 1024 + p.val, by have := t.isLt; have : t.val < 8 := lt8 t; omega⟩

variable {m C X} {c : Dev nD} (o : Holds m C X c)
include o

/-- The codebooks' block is the codebooks. -/
theorem iblk1_at (t : Fin cfg0.N) (i : Fin 6) (k : Fin 1024) (ch : Fin 256) : (iblk m c 1 t : FVec Ideal S6x1024x256 .f32) (ix3 i k ch) = (C i k ch : EReal) := by
  rw [← o.k]
  blk_ext [iblk, V, idx t]

/-- The bf16 codebooks are the codebooks. -/
theorem iblk2_at (t : Fin cfg0.N) (i : Fin 6) (k : Fin 1024) (ch : Fin 256) : (iblk m c 2 t : FVec Ideal S6x1024x256 .bf16) (ix3 i k ch) = (C i k ch : EReal) := by
  have e : (iblk m c 2 t : FVec Ideal S6x1024x256 .bf16) = V m c main_v0 := by blk_ext! [iblk, idx t]
  rw [e]
  unfold V V0 hostOps0; simp only [List.flatten_cons, List.flatten_nil, List.append_nil]; after_results
  exact o.k i k ch

/-- So is the first part of the split codebooks. -/
theorem iblk3_at (t : Fin cfg0.N) (i : Fin 6) (k : Fin 1024) (ch : Fin 256) : (iblk m c 3 t : FVec Ideal S6x1024x256 .bf16) (ix3 i k ch) = (C i k ch : EReal) := by
  have e : (iblk m c 3 t : FVec Ideal S6x1024x256 .bf16) = V m c main_v7 := by blk_ext! [iblk, idx t]
  rw [e]
  unfold V V0 hostOps0; simp only [List.flatten_cons, List.flatten_nil, List.append_nil]; after_results
  exact o.k i k ch

/-- The second part is zero. -/
theorem iblk4_at (t : Fin cfg0.N) (i : Fin 6) (k : Fin 1024) (ch : Fin 256) : (iblk m c 4 t : FVec Ideal S6x1024x256 .bf16) (ix3 i k ch) = ((0 : ℝ) : EReal) := by
  have e : (iblk m c 4 t : FVec Ideal S6x1024x256 .bf16) = V m c main_v8 := by blk_ext! [iblk, idx t]
  rw [e]
  unfold V V0 hostOps0; simp only [List.flatten_cons, List.flatten_nil, List.append_nil]; after_results
  refine Eq.trans (b := (fun z : EReal => z - z) ((m ((c : Thread nD τ).loc main_arg1) : FVec Ideal S6x1024x256 .f32) (ix3 i k ch))) rfl ?_
  rw [o.k]
  show (C i k ch : EReal) - (C i k ch : EReal) = _
  rw [← EReal.coe_sub, sub_self]

/-- So is the third. -/
theorem iblk5_at (t : Fin cfg0.N) (i : Fin 6) (k : Fin 1024) (ch : Fin 256) : (iblk m c 5 t : FVec Ideal S6x1024x256 .bf16) (ix3 i k ch) = ((0 : ℝ) : EReal) := by
  have e : (iblk m c 5 t : FVec Ideal S6x1024x256 .bf16) = V m c main_v9 := by blk_ext! [iblk, idx t]
  rw [e]
  unfold V V0 hostOps0; simp only [List.flatten_cons, List.flatten_nil, List.append_nil]; after_results
  refine Eq.trans (b := (fun z : EReal => z - z - (z - z)) ((m ((c : Thread nD τ).loc main_arg1) : FVec Ideal S6x1024x256 .f32) (ix3 i k ch))) rfl ?_
  rw [o.k]
  show (C i k ch : EReal) - (C i k ch : EReal) - ((C i k ch : EReal) - (C i k ch : EReal)) = _
  rw [← EReal.coe_sub, sub_self, ← EReal.coe_sub, sub_self]

/-- Half the squared norms of the codes, as the first block fills them. -/
theorem norm_at (t : Fin cfg0.N) (i : Fin 6) (k : Fin 1024) :
    (k0_pay5 (iblk m c 1 t) : FVec Ideal S6x1024x1 .f32) (ix3 i k 0) = ((1 / 2 * ∑ ch, C i k ch * C i k ch : ℝ) : EReal) := by
  rw [EReal.coe_mul, Rvq.coe_sum]
  pointwise [k0_pay5]
  refine congrArg₂ (fun a b : EReal => a * b) Rvq.ofBits_half (Finset.sum_congr rfl fun ch _ => ?_)
  rw [iblk1_at o, EReal.coe_mul]

/-- The operands of the layers. -/
theorem operands (t u : Fin cfg0.N) : Operands C (slab (iblk m c 2 t)) (slab (iblk m c 3 t)) (slab (iblk m c 4 t)) (slab (iblk m c 5 t))
    (col (k0_pay5 (iblk m c 1 u))) where
  b i k ch := (slab_at _ i k ch).trans (iblk2_at o t i k ch)
  h i k ch := (slab_at _ i k ch).trans (iblk3_at o t i k ch)
  m i k ch := (slab_at _ i k ch).trans (iblk4_at o t i k ch)
  l i k ch := (slab_at _ i k ch).trans (iblk5_at o t i k ch)
  n i k := (col_at _ i k).trans (norm_at o u i k)

/-- The input's block is the residuals at its lanes' positions. -/
theorem x_at (t : Fin cfg0.N) (p : Fin 1024) (ch : Fin 256) : blkX m c t (ix2 ch p) = (X (at8 t p) ch : EReal) := by
  have ht : t.val < 8 := lt8 t
  have hp := p.isLt
  obtain ⟨j, s, rfl⟩ : ∃ (j : Fin 2) (s : Fin 512), p = lane j s :=
    ⟨⟨p.val / 512, by omega⟩, ⟨p.val % 512, by omega⟩, Fin.ext (by simp only [lane]; omega)⟩
  have e : at8 t (lane j s) = Rvq.pos ⟨t.val * 2 + j.val, by omega⟩ s := Fin.ext (by simp only [at8, lane, Rvq.pos]; omega)
  rw [e, ← o.x]
  refine (pay8_at _ j ch s).trans ?_
  blk_ext [iblk, V, idx t]

end Cert.KernelIdeal.Layer

end
-- ==== Proof.Spec.lean ====
/-
  The four results, over the real numbers that the input and the codebooks hold.
-/
module

public import proofs.«01_k».proof.Proof.Pick
public import proofs.«01_k».proof.Proof.Consts

@[expose] public section

noncomputable section

open Idealize.ShloMosaic Idealize.SL.Sem

namespace Cert.Rvq

variable (C : Fin 6 → Fin 1024 → Fin 256 → ℝ) (X : Fin 8192 → Fin 256 → ℝ)

/-- How many positions take code `k` in layer `i`. -/
def count (i : Fin 6) (k : Fin 1024) : ℝ := ∑ n, if k = pick C (X n) i then 1 else 0

/-- The share of the positions that take code `k` in layer `i`. -/
def prob (i : Fin 6) (k : Fin 1024) : EReal :=
  Ideal.div (count C X i k : EReal) (Ideal.ofBits .f32 0x46000000#32 + Ideal.ofBits .f32 0x2EDBE6FF#32)

/-- The mean over the layers of the exponential of the shares' entropy. -/
def perplexity : EReal :=
  Ideal.div (∑ i : Fin 6, Ideal.exp (-∑ k : Fin 1024, prob C X i k * Ideal.log (prob C X i k + Ideal.ofBits .f32 0x33D6BF95#32)))
    (Ideal.ofBits .f32 0x40C00000#32)

/-- The mean over layers, positions and channels of the squared distance between residual and code vector. -/
def loss : ℝ := (∑ i ∈ Finset.range 6, ∑ n, gap C (X n) i) * (1 / (6 * 8192 * 256))

end Cert.Rvq

end
-- ==== Proof.KernelRun.lean ====
/-
  The blocks in order: what the scratch arrays hold between them, and what each block writes.
-/
module

public import proofs.«01_k».proof.Proof.KernelInputs
public import proofs.«01_k».proof.Proof.Spec

@[expose] public section

set_option maxRecDepth 16384

noncomputable section

open Idealize.ShloMosaic Idealize.ShloMosaic.TcCoe Idealize.SL.Sem

namespace Cert.KernelIdeal.Layer

open Cert.KernelIdeal Cert.KernelIdeal.Gen

/-- The position of the array that lane `p` of block number `t` is. -/
def atN (t : ℕ) (p : Fin 1024) : Fin 8192 := Fin.ofNat 8192 (t * 1024 + p.val)

/-- The two ways to name a position agree. -/
theorem at8_eq (t : Fin cfg0.N) (p : Fin 1024) : at8 t p = atN t.val p := by
  have := lt8 t
  refine Fin.ext ?_
  show t.val * 1024 + p.val = (t.val * 1024 + p.val) % 8192
  omega

variable (m : (ℓ : Loc nD τ sig) → Buf (Elt Ideal) ℓ) (C : Fin 6 → Fin 1024 → Fin 256 → ℝ) (X : Fin 8192 → Fin 256 → ℝ) (c : Dev nD)

/-- Half the squared norms, which the first block fills and every block uses. -/
abbrev norms : Vec Ideal S6x1024x1 .f32 := k0_pay5 (iblk m c 1 t0_0)

/-- How many positions of the blocks before `n` take code `k` in layer `i`. -/
def countTo (n : ℕ) (i : Fin 6) (k : Fin 1024) : ℝ := ∑ t ∈ Finset.range n, ∑ p : Fin 1024, if k = Rvq.pick C (X (atN t p)) i then 1 else 0

/-- The squared distances of the blocks before `n`, added. -/
def lossTo (n : ℕ) : ℝ := ∑ t ∈ Finset.range n, ∑ l ∈ Finset.range 6, ∑ p : Fin 1024, Rvq.gap C (X (atN t p)) l

/-- Block `t` works from the norms, and from the counts and distances of the blocks before it. -/
structure Step (t : Fin cfg0.N) (n : Vec Ideal S6x1024x1 .f32) (a : Vec Ideal S1x1 .f32) : Prop where
  body : Body m c t (norms m c) n a
  count : ∀ i k, (n : FVec Ideal S6x1024x1 .f32) (ix3 i k 0) = (countTo C X t.val i k : EReal)
  loss : (a : FVec Ideal S1x1 .f32) (ix2 0 0) = (lossTo C X t.val : EReal)

variable {m C X c} (o : Holds m C X c)
include o

/-- The input's block, its positions named by the block's number. -/
theorem x_atN (t : Fin cfg0.N) (p : Fin 1024) (ch : Fin 256) : blkX m c t (ix2 ch p) = (X (atN t.val p) ch : EReal) := by
  rw [x_at o, at8_eq]

/-- After a block, the counts are those of the blocks up to it. -/
theorem Step.count_next {t : Fin cfg0.N} {n : Vec Ideal S6x1024x1 .f32} {a : Vec Ideal S1x1 .f32} (h : Step m C X c t n a) (i : Fin 6) (k : Fin 1024) :
    ((outsAt0 m c t.val t.isLt).2.2.2.2.1 : FVec Ideal S6x1024x1 .f32) (ix3 i k 0) = (countTo C X (t.val + 1) i k : EReal) := by
  obtain ⟨L, e⟩ := h.body.count
  rw [e, countTiles_at]
  refine (kCountOf_at (operands o t t0_0) (x_atN o t) i (fun k => countTo C X t.val i k) (fun k => (col_at n i k).trans (h.count i k)) k).trans ?_
  rw [countTo, countTo, Finset.sum_range_succ]

/-- After a block, the distances are those of the blocks up to it. -/
theorem Step.loss_next {t : Fin cfg0.N} {n : Vec Ideal S6x1024x1 .f32} {a : Vec Ideal S1x1 .f32} (h : Step m C X c t n a) :
    ((outsAt0 m c t.val t.isLt).2.2.2.2.2.2 : FVec Ideal S1x1 .f32) (ix2 0 0) = (lossTo C X (t.val + 1) : EReal) := by
  rw [h.body.acc]
  refine (kA_at (operands o t t0_0) (x_atN o t) h.loss 6).trans ?_
  rw [lossTo, lossTo, Finset.sum_range_succ (n := t.val)]

/-- Every block is such a step. -/
theorem step : ∀ (n : ℕ) (hn : n < cfg0.N), ∃ u a, Step m C X c ⟨n, hn⟩ u a
  | 0, hn => by
    refine ⟨_, _, body_A m c ⟨0, hn⟩ rfl (by show ¬(0 % 8 = 7); decide), fun i k => ?_, ?_⟩
    · pointwise [k0_pay6]
      simp only [countTo, Finset.range_zero, Finset.sum_empty]
      rfl
    · pointwise [k0_pay7]
      simp only [lossTo, Finset.range_zero, Finset.sum_empty]
      rfl
  | n + 1, hn => by
    obtain ⟨u, a, h⟩ := step n (Nat.lt_of_succ_lt hn)
    have hb : Body m c ⟨n + 1, hn⟩ (outsAt0 m c n (Nat.lt_of_succ_lt hn)).2.2.2.2.2.1 (outsAt0 m c n (Nat.lt_of_succ_lt hn)).2.2.2.2.1
        (outsAt0 m c n (Nat.lt_of_succ_lt hn)).2.2.2.2.2.2 := by
      have h8 := lt8 ⟨n + 1, hn⟩
      have h0 : ¬(⟨n + 1, hn⟩ : Fin cfg0.N).val % 8 = 0 := by simp only at h8 ⊢; omega
      by_cases h7 : (⟨n + 1, hn⟩ : Fin cfg0.N).val % 8 = 7
      · exact body_C m c ⟨n + 1, hn⟩ h0 h7
      · exact body_B m c ⟨n + 1, hn⟩ h0 h7
    have hz : (outsAt0 m c n (Nat.lt_of_succ_lt hn)).2.2.2.2.2.1 = norms m c := h.body.norm
    exact ⟨_, _, hz ▸ hb, fun i k => h.count_next o i k, h.loss_next o⟩

/-- A block's quantized values. -/
theorem quant_at (t : Fin cfg0.N) (j : Fin 2) (ch : Fin 256) (s : Fin 512) :
    ((outsAt0 m c t.val t.isLt).1 : FVec Ideal S2x256x512 .f32) (ix3 j ch s) = (Rvq.total C (X (atN t.val (lane j s))) 6 ch : EReal) := by
  obtain ⟨u, a, h⟩ := step o t.val t.isLt
  rw [h.body.quant, quantTiles_at]
  exact kQ_at (operands o t t0_0) (x_atN o t) 6 _ ch

/-- A block's indices. -/
theorem index_at (t : Fin cfg0.N) (j : Fin 2) (i : Fin 6) (s : Fin 512) :
    ((outsAt0 m c t.val t.isLt).2.1 : IVec S2x6x512 32) (ix3 j i s) = BitVec.ofNat 32 (Rvq.pick C (X (atN t.val (lane j s))) i).val := by
  obtain ⟨u, a, h⟩ := step o t.val t.isLt
  rw [h.body.index, idxTiles_at]
  exact kIx_at (operands o t t0_0) (x_atN o t) i _

end Cert.KernelIdeal.Layer

end
-- ==== Proof.KernelFinal.lean ====
/-
  The kernel's four result arrays after the last block.
-/
module

public import proofs.«01_k».proof.Proof.KernelRun
public import Idealize.ShloMosaic.Lib.Pipeline.Value

@[expose] public section

set_option maxRecDepth 16384

noncomputable section

open Idealize.ShloMosaic Idealize.ShloMosaic.TcCoe Idealize.SL.Sem

namespace Cert.KernelIdeal.Layer

open Cert.KernelIdeal Cert.KernelIdeal.Gen

/-- A block's lanes in the order of the array's positions, over the blocks. -/
theorem sum_positions (f : Fin 8192 → ℝ) : ∑ t ∈ Finset.range 8, ∑ p : Fin 1024, f (atN t p) = ∑ n : Fin 8192, f n := by
  rw [Fin.sum_univ_tiles 8 1024 rfl f, Finset.sum_range]
  refine Finset.sum_congr rfl fun t _ => Finset.sum_congr rfl fun p _ => congrArg f (Fin.ext ?_)
  show (t.val * 1024 + p.val) % 8192 = t.val * 1024 + p.val
  omega

variable {m : (ℓ : Loc nD τ sig) → Buf (Elt Ideal) ℓ} {C : Fin 6 → Fin 1024 → Fin 256 → ℝ} {X : Fin 8192 → Fin 256 → ℝ} {c : Dev nD}

/-- A sum over a column of six. -/
theorem sum_rows (f : S1x6x1x1.Idx → EReal) : ∑ i, f i = ∑ k : Fin 6, f (ix4 0 k 0 0) := by
  refine Fintype.sum_equiv ⟨fun i => i 1, fun k => ix4 0 k 0 0, fun i => ?_, fun k => rfl⟩ _ _ fun i => ?_
  · funext a; fin_cases a <;> first | rfl | exact Subsingleton.elim (α := Fin 1) _ _
  · refine congrArg f ?_
    funext a; fin_cases a <;> first | rfl | exact Subsingleton.elim (α := Fin 1) _ _

/-- The counts of all the blocks. -/
theorem countTo_all (i : Fin 6) (k : Fin 1024) : countTo C X 8 i k = Rvq.count C X i k :=
  sum_positions fun n => if k = Rvq.pick C (X n) i then 1 else 0

/-- The distances of all the blocks, scaled. -/
theorem lossTo_all : lossTo C X 8 * (1 / (6 * 8192 * 256)) = Rvq.loss C X := by
  rw [lossTo, Rvq.loss, Finset.sum_comm]
  refine congrArg (· * _) (Finset.sum_congr rfl fun l _ => sum_positions fun n => Rvq.gap C (X n) l)

/-- The perplexity, from counts that read as the counts. -/
theorem pay3_at (n : Vec Ideal S6x1024x1 .f32) (hn : ∀ i k, (n : FVec Ideal S6x1024x1 .f32) (ix3 i k 0) = (Rvq.count C X i k : EReal)) :
    k0_pay3 n (ix2 0 0) = Rvq.perplexity C X := by
  pointwise [k0_pay3]
  rw [Ideal.reduceAdd_total _ (by decide), sum_rows]
  pointwise
  simp only [hn, zero_sub]
  rfl

/-- The loss, from an accumulator that reads as the distances. -/
theorem pay4_at (a : Vec Ideal S1x1 .f32) (ha : (a : FVec Ideal S1x1 .f32) (ix2 0 0) = (lossTo C X 8 : EReal)) :
    k0_pay4 a (ix2 0 0) = (Rvq.loss C X : EReal) := by
  rw [← lossTo_all]
  pointwise [k0_pay4]
  rw [ha, Rvq.ofBits_six, Rvq.ofBits_8192, Rvq.ofBits_256, ← EReal.coe_mul, ← EReal.coe_mul, Ideal.div_coe (by norm_num : (6 * 8192 * 256 : ℝ) ≠ 0)]
  exact (EReal.coe_mul _ _).symm

variable (o : Holds m C X c)
include o

/-- The quantized array. -/
theorem final_quant : (dats m 0 c).arrAt 6 (cfgs 0).N = fun i : S16x256x512.Idx => (Rvq.total C (X (Rvq.pos (i 0) (i 2))) 6 (i 1) : EReal) := by
  refine (dats m 0 c).arrAt_eq_of_covers 6 _ (by decide +kernel) fun t hf y => ?_
  blk_simp
  rw [after0_6]
  have ey : (y : S2x256x512.Idx) = ix3 (y 0) (y 1) (y 2) := by funext a; fin_cases a <;> rfl
  refine (congrArg (fun z : S2x256x512.Idx => ((outsAt0 m c t.val t.isLt).1 : FVec Ideal S2x256x512 .f32) z) ey).trans ((quant_at o t (y 0) (y 1) (y 2)).trans ?_)
  rw [← at8_eq]
  refine congrArg₂ (fun n ch => (Rvq.total C (X n) 6 ch : EReal)) (Fin.ext ?_) (Fin.ext ?_)
  · simp only [at8, lane, Rvq.pos]
    blk_simp [idx t]
    omega
  · blk_simp [idx t]

/-- The indices' array. -/
theorem final_index : (dats m 0 c).arrAt 7 (cfgs 0).N = fun i : S16x6x512.Idx => BitVec.ofNat 32 (Rvq.pick C (X (Rvq.pos (i 0) (i 2))) (i 1)).val := by
  refine (dats m 0 c).arrAt_eq_of_covers 7 _ (by decide +kernel) fun t hf y => ?_
  blk_simp
  rw [after0_7]
  have ey : (y : S2x6x512.Idx) = ix3 (y 0) (y 1) (y 2) := by funext a; fin_cases a <;> rfl
  refine (congrArg (fun z : S2x6x512.Idx => ((outsAt0 m c t.val t.isLt).2.1 : IVec S2x6x512 32) z) ey).trans ((index_at o t (y 0) (y 1) (y 2)).trans ?_)
  rw [← at8_eq]
  refine congrArg₂ (fun n i => BitVec.ofNat 32 (Rvq.pick C (X n) i).val) (Fin.ext ?_) (Fin.ext ?_)
  · simp only [at8, lane, Rvq.pos]
    blk_simp [idx t]
    omega
  · blk_simp [idx t]

/-- The loss. -/
theorem final_loss : (dats m 0 c).arrAt 8 (cfgs 0).N = fun i : S1x1.Idx => (Rvq.loss C X : EReal) := by
  refine (dats m 0 c).arrAt_eq_of_after_last 8 t0_7 (by decide +kernel) _ fun j => ?_
  blk_simp
  rw [after0_8, loss_C m c t0_7 (by decide) (by decide)]
  have ej : (j : S1x1.Idx) = ix2 0 0 := by funext a; fin_cases a <;> exact Subsingleton.elim (α := Fin 1) _ _
  obtain ⟨u, a, h⟩ := step o t0_7.val t0_7.isLt
  exact (congrArg (fun z : S1x1.Idx => k0_pay4 (outsAt0 m c t0_7.val t0_7.isLt).2.2.2.2.2.2 z) ej).trans (pay4_at _ (h.loss_next o))

/-- The perplexity. -/
theorem final_perp : (dats m 0 c).arrAt 9 (cfgs 0).N = fun i : S1x1.Idx => Rvq.perplexity C X := by
  refine (dats m 0 c).arrAt_eq_of_after_last 9 t0_7 (by decide +kernel) _ fun j => ?_
  blk_simp
  rw [after0_9, perp_C m c t0_7 (by decide) (by decide)]
  have ej : (j : S1x1.Idx) = ix2 0 0 := by funext a; fin_cases a <;> exact Subsingleton.elim (α := Fin 1) _ _
  obtain ⟨u, a, h⟩ := step o t0_7.val t0_7.isLt
  exact (congrArg (fun z : S1x1.Idx => k0_pay3 (outsAt0 m c t0_7.val t0_7.isLt).2.2.2.2.1 z) ej).trans
    (pay3_at _ fun i k => (h.count_next o i k).trans (congrArg _ (countTo_all i k)))

end Cert.KernelIdeal.Layer

end
-- ==== Proof.RefLayer.lean ====
/-
  One layer of the reference, named operation by operation, and what each operation is once its operands read as real
  numbers.
-/
module

public import proofs.«01_k».proof.Proof.Gen.ReferenceIdeal.Run
public import proofs.«01_k».proof.Proof.Pick
public import proofs.«01_k».proof.Proof.Consts
public import Idealize.ShloMosaic.Lib.Routing.Ops

@[expose] public section

set_option maxRecDepth 16384

noncomputable section

open Idealize.ShloMosaic Idealize.ShloMosaic.TcCoe Idealize.SL.Sem

namespace Cert.ReferenceIdeal.Layer

open Cert.ReferenceIdeal Cert.ReferenceIdeal.Gen Cert.ReferenceIdeal.Value

/-- The residual's rows, one per position. -/
def rFlat (u : FVec Ideal S16x256x512 .f32) : FVec Ideal S8192x256 .f32 :=
  shapeCast S8192x256 (transpose S16x512x256 [0, 2, 1] u transposes_S16x256x512_S16x512x256_0_2_1) shapeCasts_S16x512x256_S8192x256

/-- The negated squared distances of the rows to the codes. -/
def rNear (r : FVec Ideal S8192x256 .f32) (e : FVec Ideal S1024x256 .f32) : FVec Ideal S8192x1024 .f32 :=
  Host.negf (addf (subf (broadcastInDim S8192x1024 ![0, 1] bcast_S8192x1_S8192x1024_0_1 (broadcastInDim S8192x1 ![0] bcast_S8192_S8192x1_0
      (Host.reduceAdd (mulf r r) (constant S_ .f32 0x00000000#32) reducesTo_S8192x256_S8192_d1 h_S_)))
    (mulf (broadcastInDim S8192x1024 ![] bcast_S_S8192x1024 (constant S_ .f32 0x40000000#32))
      (Host.dotGeneral dot_S8192x256_S256x1024_S8192x1024_1_0_0_1_n_n none r (transpose S256x1024 [1, 0] e transposes_S1024x256_S256x1024_1_0))))
    (broadcastInDim S8192x1024 ![0, 1] bcast_S1x1024_S8192x1024_0_1 (broadcastInDim S1x1024 ![1] bcast_S1024_S1x1024_1
      (Host.reduceAdd (mulf e e) (constant S_ .f32 0x00000000#32) reducesTo_S1024x256_S1024_d1 h_S_))))

/-- The first lane of greatest entry of each row. -/
def rIdx (s : FVec Ideal S8192x1024 .f32) : IVec S8192 32 :=
  Host.reduce IntOp.minsi (select (cmpf .oeq s (broadcastInDim S8192x1024 ![0, 1] bcast_S8192x1_S8192x1024_0_1
      (broadcastInDim S8192x1 ![0] bcast_S8192_S8192x1_0 (Host.reduce FloatOps.maximumf s (constant S_ .f32 0xFF800000#32) reducesTo_S8192x1024_S8192_d1 h_S_))))
    (iotaInDim S8192x1024 32 1) (broadcastInDim S8192x1024 ![] bcast_S_S8192x1024 (id (constantI S_ 32 1024#32))))
    (constantI S_ 32 2147483647#32) reducesTo_S8192x1024_S8192_d1 h_S_

/-- The index, a negative one counted from the end, as a column. -/
def rAt (ix : IVec S8192 32) : IVec S8192x1 32 :=
  broadcastInDim S8192x1 ![0] bcast_S8192_S8192x1_0 (select (cmpi .slt ix (broadcastInDim S8192 ![] bcast_S_S8192 (constantI S_ 32 0#32)))
    (addi ix (broadcastInDim S8192 ![] bcast_S_S8192 (constantI S_ 32 1024#32))) ix)

/-- The codes' rows at the indices. -/
def rTake (e : FVec Ideal S1024x256 .f32) (a : IVec S8192x1 32) : FVec Ideal S8192x256 .f32 :=
  select (broadcastInDim S8192x256 ![0] bcast_S8192_S8192x256_0 (Host.reduce IntOp.andi
      (andi (cmpi .sge a (broadcastInDim S8192x1 ![] bcast_S_S8192x1 (constantI S_ 32 0#32)))
        (cmpi .sle a (broadcastInDim S8192x1 ![0, 1] bcast_S1x1_S8192x1_0_1 (broadcastInDim S1x1 ![1] bcast_S1_S1x1_1 (constantI S1 32 1023#32)))))
      (constantI S_ 1 1#1) reducesTo_S8192x1_S8192_d1 h_S_))
    (Host.gather gather_S1024x256_S8192x1_S8192x256_1_0_n_n_0_1_1256 e a)
    (broadcastInDim S8192x256 ![] bcast_S_S8192x256 (constant S_ .f32 0x7FC00000#32))

/-- The share of the positions that take each code. -/
def rProb (ix : IVec S8192 32) : FVec Ideal S1024 .f32 :=
  Host.divf (Host.reduceAdd (uitofp .f32 (cmpi .eq (broadcastInDim S8192x1024 ![0, 1] bcast_S8192x1_S8192x1024_0_1 (broadcastInDim S8192x1 ![0] bcast_S8192_S8192x1_0 ix))
      (broadcastInDim S8192x1024 ![0, 1] bcast_S1x1024_S8192x1024_0_1 (iotaInDim S1x1024 32 1)))) (constant S_ .f32 0x00000000#32) reducesTo_S8192x1024_S1024_d0 h_S_)
    (broadcastInDim S1024 ![] bcast_S_S1024 (addf (constant S_ .f32 0x46000000#32) (constant S_ .f32 0x2EDBE6FF#32)))

/-- The straight-through value, in the input's layout. -/
def rSt (r x : FVec Ideal S8192x256 .f32) : FVec Ideal S16x256x512 .f32 :=
  transpose S16x256x512 [0, 2, 1] (shapeCast S16x512x256 (addf r (subf x r)) shapeCasts_S8192x256_S16x512x256) transposes_S16x512x256_S16x256x512_0_2_1

/-- A layer's indices. -/
def lIdx (u : FVec Ideal S16x256x512 .f32) (e : FVec Ideal S1024x256 .f32) : IVec S8192 32 := rIdx (rNear (rFlat u) e)

/-- A layer's code vectors. -/
def lRow (u : FVec Ideal S16x256x512 .f32) (e : FVec Ideal S1024x256 .f32) : FVec Ideal S8192x256 .f32 := rTake e (rAt (lIdx u e))

/-- A layer's straight-through value. -/
def lSt (u : FVec Ideal S16x256x512 .f32) (e : FVec Ideal S1024x256 .f32) : FVec Ideal S16x256x512 .f32 := rSt (rFlat u) (lRow u e)

/-- The values of one layer are the layer's functions of the residual `u` and the codes `e`. -/
def IsLayer (u : FVec Ideal S16x256x512 .f32) (e : FVec Ideal S1024x256 .f32) (ix : IVec S8192 32) (q : FVec Ideal S16x256x512 .f32)
    (p : FVec Ideal S1024 .f32) (d : FVec Ideal S8192x256 .f32) : Prop :=
  ix = lIdx u e ∧ q = lSt u e ∧ p = rProb ix ∧ d = subf (rFlat u) (lRow u e)

section Layers

variable (V : Valuation τ sig (Elt Ideal))

/-- The first layer. -/
theorem layer0 : IsLayer (V (Proc.devRef .tc main_arg0)) (res_main_v4 V) (res_main_v26 V) (res_main_v47 V) (res_main_v32 V) (res_main_v40 V) :=
  ⟨rfl, rfl, rfl, rfl⟩

/-- The second layer. -/
theorem layer1 : IsLayer (res_main_v49 V) (res_main_v54 V) (res_main_v76 V) (res_main_v97 V) (res_main_v82 V) (res_main_v90 V) :=
  ⟨rfl, rfl, rfl, rfl⟩

/-- The third layer. -/
theorem layer2 : IsLayer (res_main_v99 V) (res_main_v104 V) (res_main_v126 V) (res_main_v147 V) (res_main_v132 V) (res_main_v140 V) :=
  ⟨rfl, rfl, rfl, rfl⟩

/-- The fourth layer. -/
theorem layer3 : IsLayer (res_main_v149 V) (res_main_v154 V) (res_main_v176 V) (res_main_v197 V) (res_main_v182 V) (res_main_v190 V) :=
  ⟨rfl, rfl, rfl, rfl⟩

/-- The fifth layer. -/
theorem layer4 : IsLayer (res_main_v199 V) (res_main_v204 V) (res_main_v226 V) (res_main_v247 V) (res_main_v232 V) (res_main_v240 V) :=
  ⟨rfl, rfl, rfl, rfl⟩

/-- The last layer. -/
theorem layer5 : IsLayer (res_main_v249 V) (res_main_v254 V) (res_main_v276 V) (res_main_v297 V) (res_main_v282 V) (res_main_v290 V) :=
  ⟨rfl, rfl, rfl, rfl⟩

end Layers

/-! ### What each operation is on real numbers -/

variable {K : Fin 1024 → Fin 256 → ℝ} {ρ : Fin 8192 → Fin 256 → ℝ}

/-- The rows of a residual. -/
theorem rFlat_at {u : FVec Ideal S16x256x512 .f32} (hu : ∀ (b : Fin 16) (c : Fin 256) (s : Fin 512), u (ix3 b c s) = (ρ (Rvq.pos b s) c : EReal))
    (n : Fin 8192) (c : Fin 256) : rFlat u (ix2 n c) = (ρ n c : EReal) := by
  pointwise [rFlat]
  rw [hu]
  refine congrArg (fun z => ((ρ z c : ℝ) : EReal)) (Fin.ext ?_)
  show n.val / 512 * 512 + n.val % 512 = n.val
  omega

/-- The negated squared distances. -/
theorem rNear_at {r : FVec Ideal S8192x256 .f32} {e : FVec Ideal S1024x256 .f32} (hr : ∀ (n : Fin 8192) (c : Fin 256), r (ix2 n c) = (ρ n c : EReal))
    (he : ∀ (k : Fin 1024) (c : Fin 256), e (ix2 k c) = (K k c : EReal)) (n : Fin 8192) (k : Fin 1024) :
    rNear r e (ix2 n k) = (Rvq.nearness K (ρ n) k : EReal) := by
  pointwise [rNear]
  simp only [hr, he, Rvq.ofBits_two]
  unfold Rvq.nearness
  rw [EReal.coe_neg, EReal.coe_add, EReal.coe_sub, EReal.coe_mul, Rvq.coe_sum, Rvq.coe_sum, Rvq.coe_sum]
  simp only [EReal.coe_mul]

/-- The indices. -/
theorem rIdx_at {s : FVec Ideal S8192x1024 .f32} (hs : ∀ (n : Fin 8192) (k : Fin 1024), s (ix2 n k) = (Rvq.nearness K (ρ n) k : EReal)) (n : Fin 8192) :
    rIdx s (ix1 n) = BitVec.ofNat 32 (Rvq.code K (ρ n)).val := by
  pointwise [rIdx]
  rw [← Rvq.first_nearness]
  refine Rvq.fold_lane_first (Rvq.nearness K (ρ n)) _ fun k => ?_
  simp only [hs, Rvq.ofBits_neg_inf, Rvq.fold_max_first]
  rfl

/-- The indices as a column: none is negative. -/
theorem rAt_at {ix : IVec S8192 32} {q : Fin 8192 → Fin 1024} (hx : ∀ n : Fin 8192, ix (ix1 n) = BitVec.ofNat 32 (q n).val) (n : Fin 8192) :
    rAt ix (ix2 n 0) = BitVec.ofNat 32 (q n).val := by
  have hq := (q n).isLt
  pointwise [rAt]
  simp only [hx]
  have : IntOp.cmpi .slt (BitVec.ofNat 32 (q n).val) 0#32 = 0#1 := by
    simp only [IntOp.cmpi, BitVec.slt, StableHlo.Predicate.toInt_ofNat_small _ (show (q n).val < 2 ^ 31 by omega),
      show (0#32 : BitVec 32).toInt = 0 from by decide]
    rw [decide_eq_false (by omega)]; rfl
  rw [this]; rfl

/-- The code vectors. -/
theorem rTake_at {e : FVec Ideal S1024x256 .f32} {a : IVec S8192x1 32} {q : Fin 8192 → Fin 1024}
    (he : ∀ (k : Fin 1024) (c : Fin 256), e (ix2 k c) = (K k c : EReal))
    (ha : ∀ n : Fin 8192, a (ix2 n 0) = BitVec.ofNat 32 (q n).val) (n : Fin 8192) (c : Fin 256) :
    rTake e a (ix2 n c) = (K (q n) c : EReal) := by
  have hq := (q n).isLt
  have hint := StableHlo.Predicate.toInt_ofNat_small _ (show (q n).val < 2 ^ 31 by omega)
  pointwise [rTake]
  have h1 : IntOp.cmpi .sge (BitVec.ofNat 32 (q n).val) 0#32 = 1#1 := by
    simp only [IntOp.cmpi, BitVec.sle, hint, show (0#32 : BitVec 32).toInt = 0 from by decide]
    rw [decide_eq_true (by omega)]; rfl
  have h2 : IntOp.cmpi .sle (BitVec.ofNat 32 (q n).val) 1023#32 = 1#1 := by
    simp only [IntOp.cmpi, BitVec.sle, hint, show (1023#32 : BitVec 32).toInt = 1023 from by decide]
    rw [decide_eq_true (by omega)]; rfl
  have h3 : Finset.fold IntOp.andi (1#1) (fun x : Fin 1 => IntOp.andi (IntOp.cmpi .sge (a (ix2 n x)) 0#32) (IntOp.cmpi .sle (a (ix2 n x)) 1023#32))
      Finset.univ = 1#1 := by
    rw [Finset.univ_unique, Finset.fold_singleton, show (default : Fin 1) = 0 from rfl, ha, h1, h2]; rfl
  rw [h3]
  exact (Routing.gather_row gather_S1024x256_S8192x1_S8192x256_1_0_n_n_0_1_1256 rfl rfl rfl rfl rfl e a n c (q n) (ha n) (by norm_num)).trans (he _ _)

/-- The shares. -/
theorem rProb_at {ix : IVec S8192 32} {q : Fin 8192 → Fin 1024} (hx : ∀ n : Fin 8192, ix (ix1 n) = BitVec.ofNat 32 (q n).val) (k : Fin 1024) :
    rProb ix (ix1 k) = Ideal.div ((∑ n, if k = q n then 1 else 0 : ℝ) : EReal) (Ideal.ofBits .f32 0x46000000#32 + Ideal.ofBits .f32 0x2EDBE6FF#32) := by
  pointwise [rProb]
  rw [Rvq.coe_sum]
  have e : ∀ n : Fin 8192, FloatOps.uitofp (F := Ideal) .f32 (IntOp.cmpi .eq (BitVec.ofNat 32 (q n).val) (BitVec.ofNat 32 k.val))
      = ((if k = q n then 1 else 0 : ℝ) : EReal) := by
    intro n
    refine Eq.trans (b := (((IntOp.cmpi .eq (BitVec.ofNat 32 (q n).val) (BitVec.ofNat 32 k.val)).toNat : ℝ) : EReal)) rfl ?_
    by_cases h : k = q n
    · rw [if_pos h, ← h, StableHlo.Predicate.cmpi_eq_iff.mpr rfl]; norm_num
    · have h' : ¬BitVec.ofNat 32 (q n).val = BitVec.ofNat 32 k.val := fun w => h (by
        have := congrArg BitVec.toNat w
        have hk := k.isLt
        have hq := (q n).isLt
        simp only [BitVec.toNat_ofNat] at this
        exact Fin.ext (by omega))
      rw [if_neg h, show IntOp.cmpi .eq (BitVec.ofNat 32 (q n).val) (BitVec.ofNat 32 k.val) = 0#1 by
        simp only [IntOp.cmpi, beq_eq_false_iff_ne.mpr h']; rfl]
      norm_num
  simp only [hx, e]

/-- The straight-through values. -/
theorem rSt_at {r x : FVec Ideal S8192x256 .f32} {ξ : Fin 8192 → Fin 256 → ℝ} (hr : ∀ (n : Fin 8192) (c : Fin 256), r (ix2 n c) = (ρ n c : EReal))
    (hx : ∀ (n : Fin 8192) (c : Fin 256), x (ix2 n c) = (ξ n c : EReal)) (b : Fin 16) (c : Fin 256) (s : Fin 512) :
    rSt r x (ix3 b c s) = (ξ (Rvq.pos b s) c : EReal) := by
  pointwise [rSt]
  rw [hr, hx, ← EReal.coe_sub, ← EReal.coe_add]
  exact congrArg _ (add_sub_cancel _ _)

/-- One layer, read on real numbers. -/
theorem IsLayer.reads {u : FVec Ideal S16x256x512 .f32} {e : FVec Ideal S1024x256 .f32} {ix : IVec S8192 32} {q : FVec Ideal S16x256x512 .f32}
    {p : FVec Ideal S1024 .f32} {d : FVec Ideal S8192x256 .f32} (h : IsLayer u e ix q p d)
    (hu : ∀ (b : Fin 16) (c : Fin 256) (s : Fin 512), u (ix3 b c s) = (ρ (Rvq.pos b s) c : EReal))
    (he : ∀ (k : Fin 1024) (c : Fin 256), e (ix2 k c) = (K k c : EReal)) :
    (∀ n : Fin 8192, ix (ix1 n) = BitVec.ofNat 32 (Rvq.code K (ρ n)).val)
    ∧ (∀ (b : Fin 16) (c : Fin 256) (s : Fin 512), q (ix3 b c s) = (K (Rvq.code K (ρ (Rvq.pos b s))) c : EReal))
    ∧ (∀ k : Fin 1024, p (ix1 k) = Ideal.div ((∑ n, if k = Rvq.code K (ρ n) then 1 else 0 : ℝ) : EReal) (Ideal.ofBits .f32 0x46000000#32 + Ideal.ofBits .f32 0x2EDBE6FF#32))
    ∧ ∀ (n : Fin 8192) (c : Fin 256), d (ix2 n c) = ((ρ n c - K (Rvq.code K (ρ n)) c : ℝ) : EReal) := by
  obtain ⟨rfl, rfl, rfl, rfl⟩ := h
  have hf := rFlat_at hu
  have hi : ∀ n : Fin 8192, lIdx u e (ix1 n) = BitVec.ofNat 32 (Rvq.code K (ρ n)).val := rIdx_at (rNear_at hf he)
  have hr : ∀ (n : Fin 8192) (c : Fin 256), lRow u e (ix2 n c) = (K (Rvq.code K (ρ n)) c : EReal) := rTake_at he (rAt_at hi)
  refine ⟨hi, fun b c s => rSt_at hf hr b c s, rProb_at hi, fun n c => ?_⟩
  pointwise []
  rw [hf, hr, EReal.coe_sub]

end Cert.ReferenceIdeal.Layer

end
-- ==== Proof.RefValue.lean ====
/-
  The reference's four results, read on real numbers.
-/
module

public import proofs.«01_k».proof.Proof.RefLayer
public import proofs.«01_k».proof.Proof.Spec

@[expose] public section

set_option maxRecDepth 16384

noncomputable section

open Idealize.ShloMosaic Idealize.ShloMosaic.TcCoe Idealize.SL.Sem

namespace Cert.ReferenceIdeal.Layer

open Cert.ReferenceIdeal Cert.ReferenceIdeal.Gen Cert.ReferenceIdeal.Value

variable (C : Fin 6 → Fin 1024 → Fin 256 → ℝ) (X : Fin 8192 → Fin 256 → ℝ)

/-- The residual `u` is the one that layer `i` meets. -/
def ResidIs (i : ℕ) (u : FVec Ideal S16x256x512 .f32) : Prop :=
  ∀ (b : Fin 16) (c : Fin 256) (s : Fin 512), u (ix3 b c s) = (Rvq.resid C (X (Rvq.pos b s)) i c : EReal)

/-- The values of layer `i`: its indices, code vectors, shares and differences. -/
structure Reads (i : Fin 6) (ix : IVec S8192 32) (q : FVec Ideal S16x256x512 .f32) (p : FVec Ideal S1024 .f32) (d : FVec Ideal S8192x256 .f32) : Prop where
  ix : ∀ n : Fin 8192, ix (ix1 n) = BitVec.ofNat 32 (Rvq.pick C (X n) i).val
  q : ∀ (b : Fin 16) (c : Fin 256) (s : Fin 512), q (ix3 b c s) = (Rvq.taken C (X (Rvq.pos b s)) i c : EReal)
  p : ∀ k : Fin 1024, p (ix1 k) = Rvq.prob C X i k
  d : ∀ (n : Fin 8192) (c : Fin 256), d (ix2 n c) = ((Rvq.resid C (X n) i.val c - Rvq.taken C (X n) i c : ℝ) : EReal)

variable {C X}

/-- A layer at the residual that it meets. -/
theorem IsLayer.at {u : FVec Ideal S16x256x512 .f32} {e : FVec Ideal S1024x256 .f32} {ix : IVec S8192 32} {q : FVec Ideal S16x256x512 .f32}
    {p : FVec Ideal S1024 .f32} {d : FVec Ideal S8192x256 .f32} (h : IsLayer u e ix q p d) (i : Fin 6) (hu : ResidIs C X i.val u)
    (he : ∀ (k : Fin 1024) (c : Fin 256), e (ix2 k c) = (C i k c : EReal)) : Reads C X i ix q p d := by
  obtain ⟨h1, h2, h3, h4⟩ := h.reads (ρ := fun n => Rvq.resid C (X n) i.val) (K := C i) hu he
  exact ⟨h1, h2, h3, h4⟩

/-- The residual that the next layer meets. -/
theorem ResidIs.next {u q : FVec Ideal S16x256x512 .f32} {ix : IVec S8192 32} {p : FVec Ideal S1024 .f32} {d : FVec Ideal S8192x256 .f32}
    (i : Fin 6) (hu : ResidIs C X i.val u) (h : Reads C X i ix q p d) : ResidIs C X (i.val + 1) (subf u q) := by
  intro b c s
  pointwise []
  rw [hu, h.q, ← EReal.coe_sub, Rvq.resid_succ]

variable (V : Valuation τ sig (Elt Ideal))

/-- The six layers of the reference. -/
theorem layers (hX : ResidIs C X 0 (V (Proc.devRef .tc main_arg0)))
    (hC : ∀ (i : Fin 6) (k : Fin 1024) (c : Fin 256), (V (Proc.devRef .tc main_arg1) : FVec Ideal S6x1024x256 .f32) (ix3 i k c) = (C i k c : EReal)) :
    Reads C X 0 (res_main_v26 V) (res_main_v47 V) (res_main_v32 V) (res_main_v40 V)
    ∧ Reads C X 1 (res_main_v76 V) (res_main_v97 V) (res_main_v82 V) (res_main_v90 V)
    ∧ Reads C X 2 (res_main_v126 V) (res_main_v147 V) (res_main_v132 V) (res_main_v140 V)
    ∧ Reads C X 3 (res_main_v176 V) (res_main_v197 V) (res_main_v182 V) (res_main_v190 V)
    ∧ Reads C X 4 (res_main_v226 V) (res_main_v247 V) (res_main_v232 V) (res_main_v240 V)
    ∧ Reads C X 5 (res_main_v276 V) (res_main_v297 V) (res_main_v282 V) (res_main_v290 V) := by
  have r0 := (layer0 V).at 0 hX fun k c => by pointwise [res_main_v4]; exact hC 0 k c
  have u1 : ResidIs C X 1 (res_main_v49 V) := hX.next 0 r0
  have r1 := (layer1 V).at 1 u1 fun k c => by pointwise [res_main_v54]; exact hC 1 k c
  have u2 : ResidIs C X 2 (res_main_v99 V) := u1.next 1 r1
  have r2 := (layer2 V).at 2 u2 fun k c => by pointwise [res_main_v104]; exact hC 2 k c
  have u3 : ResidIs C X 3 (res_main_v149 V) := u2.next 2 r2
  have r3 := (layer3 V).at 3 u3 fun k c => by pointwise [res_main_v154]; exact hC 3 k c
  have u4 : ResidIs C X 4 (res_main_v199 V) := u3.next 3 r3
  have r4 := (layer4 V).at 4 u4 fun k c => by pointwise [res_main_v204]; exact hC 4 k c
  have u5 : ResidIs C X 5 (res_main_v249 V) := u4.next 4 r4
  have r5 := (layer5 V).at 5 u5 fun k c => by pointwise [res_main_v254]; exact hC 5 k c
  exact ⟨r0, r1, r2, r3, r4, r5⟩

/-! ### The four results -/

/-- The sum of the six layers' code vectors, from zero. -/
def quantOf (q0 q1 q2 q3 q4 q5 : FVec Ideal S16x256x512 .f32) : FVec Ideal S16x256x512 .f32 :=
  addf (addf (addf (addf (addf (addf (broadcastInDim S16x256x512 ![] bcast_S_S16x256x512 (constant S_ .f32 0x00000000#32)) q0) q1) q2) q3) q4) q5

/-- One layer's indices as a slab of the stack. -/
def slabOf (ix : IVec S8192 32) : IVec S16x512x1 32 :=
  broadcastInDim S16x512x1 ![0, 1] bcast_S16x512_S16x512x1_0_1 (shapeCast S16x512 ix shapeCasts_S8192_S16x512)

/-- The six layers' indices, stacked. -/
def idxOf (a0 a1 a2 a3 a4 a5 : IVec S8192 32) : IVec S16x512x6 32 :=
  concatenate S16x512x6 2 [⟨S16x512x1, slabOf a0⟩, ⟨S16x512x1, slabOf a1⟩, ⟨S16x512x1, slabOf a2⟩, ⟨S16x512x1, slabOf a3⟩, ⟨S16x512x1, slabOf a4⟩,
    ⟨S16x512x1, slabOf a5⟩] concatenates_S16x512x1_S16x512x1_S16x512x1_S16x512x1_S16x512x1_S16x512x1_S16x512x6_d2

/-- The mean of six scalars. -/
def meanOf (a0 a1 a2 a3 a4 a5 : FVec Ideal S_ .f32) : FVec Ideal S_ .f32 :=
  Host.divf (Host.reduceAdd (concatenate S6 0 [⟨S1, broadcastInDim S1 ![] bcast_S_S1 a0⟩, ⟨S1, broadcastInDim S1 ![] bcast_S_S1 a1⟩,
    ⟨S1, broadcastInDim S1 ![] bcast_S_S1 a2⟩, ⟨S1, broadcastInDim S1 ![] bcast_S_S1 a3⟩, ⟨S1, broadcastInDim S1 ![] bcast_S_S1 a4⟩,
    ⟨S1, broadcastInDim S1 ![] bcast_S_S1 a5⟩] concatenates_S1_S1_S1_S1_S1_S1_S6_d0) (constant S_ .f32 0x00000000#32) reducesTo_S6_S_d0 h_S_)
    (constant S_ .f32 0x40C00000#32)

/-- The mean of the squares of one layer's differences. -/
def msqOf (d : FVec Ideal S8192x256 .f32) : FVec Ideal S_ .f32 :=
  Host.divf (Host.reduceAdd (mulf d d) (constant S_ .f32 0x00000000#32) reducesTo_S8192x256_S_d0_1 h_S_) (constant S_ .f32 0x4A000000#32)

/-- The exponential of the entropy of one layer's shares. -/
def entOf (p : FVec Ideal S1024 .f32) : FVec Ideal S_ .f32 :=
  Host.exp (Host.negf (Host.reduceAdd (mulf p (Host.log (addf p (broadcastInDim S1024 ![] bcast_S_S1024 (constant S_ .f32 0x33D6BF95#32)))))
    (constant S_ .f32 0x00000000#32) reducesTo_S1024_S_d0 h_S_))

/-- The sum of the code vectors. -/
theorem quantOf_at {q : Fin 6 → FVec Ideal S16x256x512 .f32}
    (h : ∀ (i : Fin 6) (b : Fin 16) (c : Fin 256) (s : Fin 512), q i (ix3 b c s) = (Rvq.taken C (X (Rvq.pos b s)) i c : EReal))
    (b : Fin 16) (c : Fin 256) (s : Fin 512) :
    quantOf (q 0) (q 1) (q 2) (q 3) (q 4) (q 5) (ix3 b c s) = (Rvq.total C (X (Rvq.pos b s)) 6 c : EReal) := by
  pointwise [quantOf]
  simp only [h, ← EReal.coe_add]
  refine congrArg _ ?_
  rw [← zero_add (Rvq.taken C (X (Rvq.pos b s)) 0 c)]
  rfl

/-- One layer's slab. -/
theorem slabOf_at {ix : IVec S8192 32} (b : Fin 16) (s : Fin 512) (i : Fin 1) : slabOf ix (ix3 b s i) = ix (ix1 (Rvq.pos b s)) := by
  pointwise [slabOf]
  rfl

/-- The stack of indices. -/
theorem idxOf_at {a0 a1 a2 a3 a4 a5 : IVec S8192 32} (q : Fin 6 → BitVec 32) (b : Fin 16) (s : Fin 512) (h0 : a0 (ix1 (Rvq.pos b s)) = q 0)
    (h1 : a1 (ix1 (Rvq.pos b s)) = q 1) (h2 : a2 (ix1 (Rvq.pos b s)) = q 2) (h3 : a3 (ix1 (Rvq.pos b s)) = q 3) (h4 : a4 (ix1 (Rvq.pos b s)) = q 4)
    (h5 : a5 (ix1 (Rvq.pos b s)) = q 5) (i : Fin 6) : idxOf a0 a1 a2 a3 a4 a5 (ix3 b s i) = q i := by
  have : i = 0 ∨ i = 1 ∨ i = 2 ∨ i = 3 ∨ i = 4 ∨ i = 5 := by omega
  rcases this with rfl | rfl | rfl | rfl | rfl | rfl <;> pointwise [idxOf]
  exacts [(slabOf_at b s _).trans h0, (slabOf_at b s _).trans h1, (slabOf_at b s _).trans h2, (slabOf_at b s _).trans h3, (slabOf_at b s _).trans h4,
    (slabOf_at b s _).trans h5]

/-- The mean of six scalars. -/
theorem meanOf_at {a : Fin 6 → FVec Ideal S_ .f32} (j : S_.Idx) :
    meanOf (a 0) (a 1) (a 2) (a 3) (a 4) (a 5) j = Ideal.div (∑ i, a i ix0) (Ideal.ofBits .f32 0x40C00000#32) := by
  pointwise [meanOf]
  simp only [Fin.sum_univ_six]
  rfl

/-- The mean of the squares. -/
theorem msqOf_at {d : FVec Ideal S8192x256 .f32} {i : Fin 6} (h : ∀ (n : Fin 8192) (c : Fin 256), d (ix2 n c) = ((Rvq.resid C (X n) i.val c - Rvq.taken C (X n) i c : ℝ) : EReal)) :
    msqOf d ix0 = (((∑ n, Rvq.gap C (X n) i) * (1 / 2097152) : ℝ) : EReal) := by
  pointwise [msqOf]
  have e : ∀ n : Fin 8192, ∑ c : Fin 256, d (ix2 n c) * d (ix2 n c) = (Rvq.gap C (X n) i.val : EReal) := by
    intro n
    unfold Rvq.gap
    rw [Rvq.coe_sum]
    refine Finset.sum_congr rfl fun c _ => ?_
    rw [h, ← EReal.coe_mul, Fin.ofNat_val_eq_self]
    rfl
  simp only [e, ← Rvq.coe_sum, Rvq.ofBits_2097152]
  rw [Ideal.div_coe (by norm_num : (2097152 : ℝ) ≠ 0), ← EReal.coe_mul]

/-- The exponential of the entropy. -/
theorem entOf_at {p : FVec Ideal S1024 .f32} {i : Fin 6} (h : ∀ k : Fin 1024, p (ix1 k) = Rvq.prob C X i k) :
    entOf p ix0 = Ideal.exp (-∑ k : Fin 1024, Rvq.prob C X i k * Ideal.log (Rvq.prob C X i k + Ideal.ofBits .f32 0x33D6BF95#32)) := by
  pointwise [entOf]
  simp only [h]

section Results

variable (V : Valuation τ sig (Elt Ideal)) (hX : ResidIs C X 0 (V (Proc.devRef .tc main_arg0)))
  (hC : ∀ (i : Fin 6) (k : Fin 1024) (c : Fin 256), (V (Proc.devRef .tc main_arg1) : FVec Ideal S6x1024x256 .f32) (ix3 i k c) = (C i k c : EReal))

include hX hC

/-- The quantized result of the reference. -/
theorem quant (b : Fin 16) (c : Fin 256) (s : Fin 512) :
    quantOf (res_main_v47 V) (res_main_v97 V) (res_main_v147 V) (res_main_v197 V) (res_main_v247 V) (res_main_v297 V) (ix3 b c s)
      = (Rvq.total C (X (Rvq.pos b s)) 6 c : EReal) := by
  obtain ⟨r0, r1, r2, r3, r4, r5⟩ := layers V hX hC
  refine quantOf_at (q := ![res_main_v47 V, res_main_v97 V, res_main_v147 V, res_main_v197 V, res_main_v247 V, res_main_v297 V]) (fun i => ?_) b c s
  have : i = 0 ∨ i = 1 ∨ i = 2 ∨ i = 3 ∨ i = 4 ∨ i = 5 := by omega
  rcases this with rfl | rfl | rfl | rfl | rfl | rfl
  exacts [r0.q, r1.q, r2.q, r3.q, r4.q, r5.q]

/-- The indices of the reference. -/
theorem index (b : Fin 16) (s : Fin 512) (i : Fin 6) :
    idxOf (res_main_v26 V) (res_main_v76 V) (res_main_v126 V) (res_main_v176 V) (res_main_v226 V) (res_main_v276 V) (ix3 b s i)
      = BitVec.ofNat 32 (Rvq.pick C (X (Rvq.pos b s)) i).val := by
  obtain ⟨r0, r1, r2, r3, r4, r5⟩ := layers V hX hC
  exact idxOf_at (fun i => BitVec.ofNat 32 (Rvq.pick C (X (Rvq.pos b s)) i).val) b s (r0.ix _) (r1.ix _) (r2.ix _) (r3.ix _) (r4.ix _) (r5.ix _) i

/-- The loss of the reference. -/
theorem loss (j : S_.Idx) :
    meanOf (msqOf (res_main_v40 V)) (msqOf (res_main_v90 V)) (msqOf (res_main_v140 V)) (msqOf (res_main_v190 V)) (msqOf (res_main_v240 V))
      (msqOf (res_main_v290 V)) j = (Rvq.loss C X : EReal) := by
  obtain ⟨r0, r1, r2, r3, r4, r5⟩ := layers V hX hC
  refine (meanOf_at (a := ![msqOf (res_main_v40 V), msqOf (res_main_v90 V), msqOf (res_main_v140 V), msqOf (res_main_v190 V), msqOf (res_main_v240 V),
    msqOf (res_main_v290 V)]) j).trans ?_
  have e : ∀ i : Fin 6, (![msqOf (res_main_v40 V), msqOf (res_main_v90 V), msqOf (res_main_v140 V), msqOf (res_main_v190 V), msqOf (res_main_v240 V),
      msqOf (res_main_v290 V)] : Fin 6 → FVec Ideal S_ .f32) i ix0 = (((∑ n, Rvq.gap C (X n) i) * (1 / 2097152) : ℝ) : EReal) := by
    intro i
    have : i = 0 ∨ i = 1 ∨ i = 2 ∨ i = 3 ∨ i = 4 ∨ i = 5 := by omega
    rcases this with rfl | rfl | rfl | rfl | rfl | rfl
    exacts [msqOf_at r0.d, msqOf_at r1.d, msqOf_at r2.d, msqOf_at r3.d, msqOf_at r4.d, msqOf_at r5.d]
  rw [Finset.sum_congr rfl fun i _ => e i, ← Rvq.coe_sum, Rvq.ofBits_six, Ideal.div_coe (by norm_num : (6 : ℝ) ≠ 0), ← EReal.coe_mul]
  refine congrArg _ ?_
  unfold Rvq.loss
  rw [Finset.sum_range, ← Finset.sum_mul, mul_assoc]
  norm_num

/-- The perplexity of the reference. -/
theorem perp (j : S_.Idx) :
    meanOf (entOf (res_main_v32 V)) (entOf (res_main_v82 V)) (entOf (res_main_v132 V)) (entOf (res_main_v182 V)) (entOf (res_main_v232 V))
      (entOf (res_main_v282 V)) j = Rvq.perplexity C X := by
  obtain ⟨r0, r1, r2, r3, r4, r5⟩ := layers V hX hC
  refine (meanOf_at (a := ![entOf (res_main_v32 V), entOf (res_main_v82 V), entOf (res_main_v132 V), entOf (res_main_v182 V), entOf (res_main_v232 V),
    entOf (res_main_v282 V)]) j).trans ?_
  have e : ∀ i : Fin 6, (![entOf (res_main_v32 V), entOf (res_main_v82 V), entOf (res_main_v132 V), entOf (res_main_v182 V), entOf (res_main_v232 V),
      entOf (res_main_v282 V)] : Fin 6 → FVec Ideal S_ .f32) i ix0
      = Ideal.exp (-∑ k : Fin 1024, Rvq.prob C X i k * Ideal.log (Rvq.prob C X i k + Ideal.ofBits .f32 0x33D6BF95#32)) := by
    intro i
    have : i = 0 ∨ i = 1 ∨ i = 2 ∨ i = 3 ∨ i = 4 ∨ i = 5 := by omega
    rcases this with rfl | rfl | rfl | rfl | rfl | rfl
    exacts [entOf_at r0.p, entOf_at r1.p, entOf_at r2.p, entOf_at r3.p, entOf_at r4.p, entOf_at r5.p]
  rw [Finset.sum_congr rfl fun i _ => e i]
  rfl

end Results

end Cert.ReferenceIdeal.Layer

end
-- ==== Proof.Pre.lean ====
/-
  What the precondition gives: the input and the codebooks are real numbers. Its bits begin with the two tests that every
  number lies below infinity in absolute value.
-/
module

public import proofs.«01_k».proof.Pre_no_tie
public import proofs.«01_k».proof.Proof.Consts
public import proofs.«01_k».proof.Proof.Pick
public import Idealize.ShloMosaic.Lib.Pointwise
public import Idealize.ShloMosaic.Lib.Decide

@[expose] public section

set_option maxRecDepth 16384
set_option Elab.async false

noncomputable section

open Idealize.ShloMosaic

namespace Cert.Pre_no_tie

/-- The side conditions that the precondition states. -/
theorem facts : Facts where
  transposes_S16x256x512_S16x512x256_0_2_1 := by decide
  shapeCasts_S16x512x256_S8192x256 := by decide
  bcast_S_S16x256x512 := by decide
  shapeCasts_S16x256x512_S2097152 := by decide
  bcast_S_S6x1024x256 := by decide
  shapeCasts_S6x1024x256_S1572864 := by decide
  slices_S6x1024x256_S1x1024x256_0_0_0 := by decide
  shapeCasts_S1x1024x256_S1024x256 := by decide
  transposes_S1024x256_S256x1024_1_0 := by decide
  reducesTo_S1024x256_S1024_d1 := by decide
  h_S_ := by decide
  bcast_S_S1024 := by decide
  bcast_S1024_S1x1024_1 := by decide
  bcast_S1x1024_S8192x1024_0_1 := by decide
  reducesTo_S8192x1024_S8192_d1 := by decide
  bcast_S8192_S8192x1_0 := by decide
  bcast_S8192x1_S8192x1024_0_1 := by decide
  natLt_1_32 := by decide
  bcast_S_S8192 := by decide
  slices_S6x1024x256_S1x1024x256_1_0_0 := by decide
  slices_S6x1024x256_S1x1024x256_2_0_0 := by decide
  slices_S6x1024x256_S1x1024x256_3_0_0 := by decide
  slices_S6x1024x256_S1x1024x256_4_0_0 := by decide
  slices_S6x1024x256_S1x1024x256_5_0_0 := by decide
  concatenates_S2097152_S1572864_S8192_S8192_S8192_S8192_S8192_S8192_S3719168_d0 := by decide
  dot_S8192x256_S256x1024_S8192x1024_1_0_0_1_n_n_wf := by decide
  dot_S8192x1024_S1024x256_S8192x256_1_0_0_1_n_n_wf := by decide

variable [Facts]
open Facts

/-- The bits `r` begin with the bits `x`, then `k`. -/
def Begins (x : IVec S2097152 1) (k : IVec S1572864 1) (r : IVec S3719168 1) : Prop :=
  r = (fun _ => 1#1) → (∀ i, x i = 1#1) ∧ ∀ i, k i = 1#1

/-- The bits in a row begin with the first two pieces. -/
theorem begins_concatenate (x : IVec S2097152 1) (k : IVec S1572864 1) (a b c d e f : IVec S8192 1) :
    Begins x k (concatenate S3719168 0 [⟨S2097152, x⟩, ⟨S1572864, k⟩, ⟨S8192, a⟩, ⟨S8192, b⟩, ⟨S8192, c⟩, ⟨S8192, d⟩, ⟨S8192, e⟩, ⟨S8192, f⟩]
      concatenates_S2097152_S1572864_S8192_S8192_S8192_S8192_S8192_S8192_S3719168_d0) := by
  intro h
  refine ⟨fun i => ?_, fun i => ?_⟩
  · have := congrFun h (ix1 (⟨(i 0).val, by have : (i 0).val < 2097152 := (i 0).isLt; omega⟩ : Fin 3719168))
    have hi : (i 0).val < 2097152 := (i 0).isLt
    pointwise at this
    exact this
  · have := congrFun h (ix1 (⟨2097152 + (i 0).val, by have : (i 0).val < 1572864 := (i 0).isLt; omega⟩ : Fin 3719168))
    have hi : (i 0).val < 1572864 := (i 0).isLt
    pointwise at this
    exact this

/-- So does the precondition. -/
theorem begins_fn (x : FVec Ideal S16x256x512 .f32) (k : FVec Ideal S6x1024x256 .f32) :
    Begins (shapeCast S2097152 (cmpf .olt (Host.absf x) (broadcastInDim S16x256x512 ![] bcast_S_S16x256x512 (constant S_ .f32 0x7F800000#32))) shapeCasts_S16x256x512_S2097152)
      (shapeCast S1572864 (cmpf .olt (Host.absf k) (broadcastInDim S6x1024x256 ![] bcast_S_S6x1024x256 (constant S_ .f32 0x7F800000#32))) shapeCasts_S6x1024x256_S1572864)
      (fn x k) := by
  unfold fn fn_part1 fn_part2 fn_part3 fn_part4 fn_part5 fn_part6 fn_part7
  exact begins_concatenate _ _ _ _ _ _ _ _

/-- A number whose test against infinity is one is real. -/
theorem real_of_test (s : Shape) (y : FVec Ideal s .f32) (h : S_.BroadcastsInDim s (![] : Fin 0 → Fin s.rank)) (i : s.Idx)
    (t : cmpf .olt (Host.absf y) (broadcastInDim s ![] h (constant S_ .f32 0x7F800000#32)) i = 1#1) : (((y i : EReal).toReal : ℝ) : EReal) = y i := by
  have t' : BitVec.ofBool (decide (max (y i : EReal) (-(y i)) < Ideal.ofBits .f32 0x7F800000#32)) = 1#1 := t
  rw [Rvq.ofBits_inf] at t'
  refine Rvq.coe_toReal_of_abs_lt _ ?_
  by_contra n
  rw [decide_eq_false n] at t'
  exact absurd t' (by decide)

/-- Under the precondition the input and the codebooks are real numbers. -/
theorem real_of_fn (x : FVec Ideal S16x256x512 .f32) (k : FVec Ideal S6x1024x256 .f32) (h : fn x k = fun _ => 1#1) :
    (∀ i, (((x i : EReal).toReal : ℝ) : EReal) = x i) ∧ ∀ i, (((k i : EReal).toReal : ℝ) : EReal) = k i := by
  obtain ⟨hx, hk⟩ := begins_fn x k h
  refine ⟨fun i => real_of_test _ x bcast_S_S16x256x512 i ?_, fun i => real_of_test _ k bcast_S_S6x1024x256 i ?_⟩
  · have := hx ((Shape.reshapeEquiv shapeCasts_S16x256x512_S2097152).symm i)
    rwa [shapeCast, Equiv.apply_symm_apply] at this
  · have := hk ((Shape.reshapeEquiv shapeCasts_S6x1024x256_S1572864).symm i)
    rwa [shapeCast, Equiv.apply_symm_apply] at this

end Cert.Pre_no_tie

end
-- ==== Proof.Algebraic.lean ====
/-
  The kernel and the reference end with equal results.
-/
module

public import proofs.«01_k».proof.Defs
public import proofs.«01_k».proof.Proof.Gen.KernelIdeal.Frame
public import proofs.«01_k».proof.Proof.Gen.ReferenceIdeal.Run
public import proofs.«01_k».proof.Proof.KernelFinal
public import proofs.«01_k».proof.Proof.RefValue
public import proofs.«01_k».proof.Proof.Pre
public import Idealize.ShloMosaic.Lib.Claim
public import Idealize.ShloMosaic.Lib.Pipeline.Value

@[expose] public section

set_option maxRecDepth 16384

noncomputable section

open Idealize.ShloMosaic Idealize.ShloMosaic.TcCoe Idealize.SL.Sem Idealize.ShloMosaic.StableHlo

namespace Cert.Proof

section Values

open Cert.KernelIdeal

variable (m : (ℓ : Loc nD τ sig) → Buf (Elt Ideal) ℓ) (c : Dev nD)

/-- The codebooks of a memory, as real numbers. -/
def codes (i : Fin 6) (k : Fin 1024) (ch : Fin 256) : ℝ :=
  ((m ((c : Thread nD τ).loc main_arg1) : FVec Ideal S6x1024x256 .f32) (ix3 i k ch) : EReal).toReal

/-- The input of a memory, as real numbers, by position and channel. -/
def input (n : Fin 8192) (ch : Fin 256) : ℝ :=
  ((m ((c : Thread nD τ).loc main_arg0) : FVec Ideal S16x256x512 .f32)
    (ix3 (⟨n.val / 512, by omega⟩ : Fin 16) ch (⟨n.val % 512, by omega⟩ : Fin 512)) : EReal).toReal

/-- The transposed indices after the last line. -/
theorem tail_index : Pipeline.afterTail₀ cfgs (Gen.dats m) 0 (Gen.V0 m) [Gen.hostOps1] c main_v11
    = transpose S16x512x6 [0, 2, 1] ((Gen.dats m 0 c).arrAt 7 (cfgs 0).N) Gen.transposes_S16x6x512_S16x512x6_0_2_1 := by
  unfold Pipeline.afterTail₀ Gen.hostOps1; simp only [List.flatten_cons, List.flatten_nil, List.append_nil]; after_results
  exact congrArg (fun z => transpose S16x512x6 [0, 2, 1] z Gen.transposes_S16x6x512_S16x512x6_0_2_1) (Pipeline.withArrays_arr (cfgs 0).spec Gen.launch0.win.arr_inj c _ (fun w => (Gen.dats m 0 c).arrAt w (cfgs 0).N) 7)

/-- The loss after the last line. -/
theorem tail_loss : Pipeline.afterTail₀ cfgs (Gen.dats m) 0 (Gen.V0 m) [Gen.hostOps1] c main_v12
    = shapeCast S_ ((Gen.dats m 0 c).arrAt 8 (cfgs 0).N) Gen.shapeCasts_S1x1_S_ := by
  unfold Pipeline.afterTail₀ Gen.hostOps1; simp only [List.flatten_cons, List.flatten_nil, List.append_nil]; after_results
  exact congrArg (fun z => shapeCast S_ z Gen.shapeCasts_S1x1_S_) (Pipeline.withArrays_arr (cfgs 0).spec Gen.launch0.win.arr_inj c _ (fun w => (Gen.dats m 0 c).arrAt w (cfgs 0).N) 8)

/-- The perplexity after the last line. -/
theorem tail_perp : Pipeline.afterTail₀ cfgs (Gen.dats m) 0 (Gen.V0 m) [Gen.hostOps1] c main_v13
    = shapeCast S_ ((Gen.dats m 0 c).arrAt 9 (cfgs 0).N) Gen.shapeCasts_S1x1_S_ := by
  unfold Pipeline.afterTail₀ Gen.hostOps1; simp only [List.flatten_cons, List.flatten_nil, List.append_nil]; after_results
  exact congrArg (fun z => shapeCast S_ z Gen.shapeCasts_S1x1_S_) (Pipeline.withArrays_arr (cfgs 0).spec Gen.launch0.win.arr_inj c _ (fun w => (Gen.dats m 0 c).arrAt w (cfgs 0).N) 9)

variable {m}

/-- Under the precondition a memory holds them. -/
theorem holds (h : Pre_KernelIdeal (hPre_no_tie := Cert.Pre_no_tie.facts) m) : KernelIdeal.Layer.Holds m (codes m c) (input m c) c := by
  obtain ⟨hx, hk⟩ := @Cert.Pre_no_tie.real_of_fn Cert.Pre_no_tie.facts _ _ (h c)
  refine ⟨fun b ch s => ?_, fun i k ch => (hk _).symm⟩
  refine (hx _).symm.trans (congrArg (fun z : EReal => ((z.toReal : ℝ) : EReal)) (congrArg _ ?_))
  have e : Rvq.pos b s = (⟨b.val * 512 + s.val, by omega⟩ : Fin 8192) := rfl
  funext a
  fin_cases a
  · exact Fin.ext (show b.val = (Rvq.pos b s).val / 512 by rw [e]; show b.val = (b.val * 512 + s.val) / 512; omega)
  · rfl
  · exact Fin.ext (show s.val = (Rvq.pos b s).val % 512 by rw [e]; show s.val = (b.val * 512 + s.val) % 512; omega)

end Values

open Cert.KernelIdeal.Layer (final_quant final_index final_loss final_perp) in
/-- The two programs' results are equal. -/
theorem algebraic : Cert.algebraic_KernelIdeal_ReferenceIdeal (hPre_no_tie := Cert.Pre_no_tie.facts) := by
  intro m g m' g' hpre hagree
  refine ⟨fun c => (fun i => ((Rvq.total (codes m c) (input m c (Rvq.pos (i 0) (i 2))) 6 (i 1) : ℝ) : EReal) : FVec Ideal KernelIdeal.S16x256x512 .f32),
    fun c => (fun i => BitVec.ofNat 32 (Rvq.pick (codes m c) (input m c (Rvq.pos (i 0) (i 1))) (i 2)).val : IVec KernelIdeal.S16x512x6 32),
    fun c => (fun _ => ((Rvq.loss (codes m c) (input m c) : ℝ) : EReal) : FVec Ideal KernelIdeal.S_ .f32),
    fun c => (fun _ => Rvq.perplexity (codes m c) (input m c) : FVec Ideal KernelIdeal.S_ .f32), ?_, ?_⟩
  · run_from Cert.KernelIdeal.Gen.run_main m g
    · exact final_quant (holds c hpre)
    · rw [tail_index, final_index (holds c hpre)]
      funext i
      idx_vars i
      pointwise
    · rw [tail_loss, final_loss (holds c hpre)]
      rfl
    · rw [tail_perp, final_perp (holds c hpre)]
      rfl
  · refine (θ_run Cert.ReferenceIdeal.defs _ _).mono (fun r h c => ?_) (Cert.ReferenceIdeal.Value.run m' g')
    obtain ⟨h0, h1, h2, h3, h4⟩ := h c
    have o := holds c hpre
    have hX : ReferenceIdeal.Layer.ResidIs (codes m c) (input m c) 0 (launchContents m' c (Proc.devRef .tc ReferenceIdeal.main_arg0)) := by
      intro b ch s
      exact (congrFun (hagree c).1 _).trans (o.x b ch s)
    have hC : ∀ (i : Fin 6) (k : Fin 1024) (ch : Fin 256), (launchContents m' c (Proc.devRef .tc ReferenceIdeal.main_arg1) : FVec Ideal ReferenceIdeal.S6x1024x256 .f32) (ix3 i k ch)
        = (codes m c i k ch : EReal) := by
      intro i k ch
      exact (congrFun (hagree c).2 _).trans (o.k i k ch)
    refine ⟨h0.trans ?_, h1.trans ?_, h2.trans ?_, h3.trans ?_, h4⟩
    · funext i
      idx_vars i
      exact ReferenceIdeal.Layer.quant _ hX hC _ _ _
    · funext i
      idx_vars i
      exact ReferenceIdeal.Layer.index _ hX hC _ _ _
    · funext i
      exact ReferenceIdeal.Layer.loss _ hX hC _
    · funext i
      exact ReferenceIdeal.Layer.perp _ hX hC _

end Cert.Proof

end
-- ==== Proof.lean ====
/-
  The certificate: both programs' frames, the idealization, and the equality of the results.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Algebraic
public import Idealize.ShloMosaic.Lib.Quiescent

@[expose] public section

noncomputable section

open Idealize.ShloMosaic Idealize.SL.Sem

namespace Cert.Proof

/-- The reference runs, leaves its arguments and has no counter that could be left over. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2.2.2, sem_eq_zero_of_no_sems (by decide) r.2⟩)
    (Cert.ReferenceIdeal.Value.run (F := Ideal) m g)

/-- Every claim holds. -/
theorem claim : Cert.Claim :=
  ⟨Cert.Kernel.Gen.facts, Cert.KernelIdeal.Gen.facts, Cert.ReferenceIdeal.Gen.facts, Cert.Pre_no_tie.facts,
    fun m g _ => Cert.Kernel.Gen.frame m g, fun m g _ => Cert.Kernel.Gen.frame m g, fun m g _ => Cert.KernelIdeal.Gen.frame m g,
    fun m g _ => frame_reference m g, fun m g _ => frame_reference m g, trivial, algebraic⟩

end Cert.Proof

end
